-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zero_biases [hPre_zero_biases : Cert.Pre_zero_biases.Facts] (m : (ℓ : Loc Cert.KernelIdeal.nD Cert.KernelIdeal.τ Cert.KernelIdeal.sig) → Buf (Elt Ideal) ℓ) : Prop :=
  ∀ c : Dev Cert.KernelIdeal.nD,
    (Cert.Pre_zero_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_biases [hPre_zero_biases : Cert.Pre_zero_biases.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_zero_biases [hKernelIdeal : Cert.KernelIdeal.Facts] [hPre_zero_biases : Cert.Pre_zero_biases.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_biases m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_zero_biases [hReferenceIdeal : Cert.ReferenceIdeal.Facts] [hPre_zero_biases : Cert.Pre_zero_biases.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_biases m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_zero_biases [hKernelIdeal : Cert.KernelIdeal.Facts] [hReferenceIdeal : Cert.ReferenceIdeal.Facts] [hPre_zero_biases : Cert.Pre_zero_biases.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_biases m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_zero_biases : Cert.Pre_zero_biases.Facts),
    quiescent_Kernel (hKernel := hKernel)
    ∧ quiescent_KernelIdeal (hKernelIdeal := hKernelIdeal)
    ∧ quiescent_KernelIdeal_pre_zero_biases (hKernelIdeal := hKernelIdeal) (hPre_zero_biases := hPre_zero_biases)
    ∧ quiescent_ReferenceIdeal (hReferenceIdeal := hReferenceIdeal)
    ∧ quiescent_ReferenceIdeal_pre_zero_biases (hReferenceIdeal := hReferenceIdeal) (hPre_zero_biases := hPre_zero_biases)
    ∧ preserves_Kernel_KernelIdeal
    ∧ algebraic_KernelIdeal_ReferenceIdeal_pre_zero_biases (hKernelIdeal := hKernelIdeal) (hReferenceIdeal := hReferenceIdeal) (hPre_zero_biases := hPre_zero_biases)
-- ==== Pre_zero_biases.lean ====
abbrev S100000x3 : Shape := ⟨2, ![100000, 3]⟩
abbrev S100000x128 : Shape := ⟨2, ![100000, 128]⟩
abbrev S128x128 : Shape := ⟨2, ![128, 128]⟩
abbrev S128 : Shape := ⟨1, ![128]⟩
abbrev S_ : Shape := ⟨0, ![]⟩

class Facts : Prop where
  bcast_S_S128 : S_.BroadcastsInDim S128 (![] : Fin 0 → Fin S128.rank)
  reducesTo_S128_S_d0 : S128.ReducesTo [0] S_
  h_S_ : 0 < S_.numel

variable [Facts]

def fn {F : FTy → Type} [FloatOps F] (main_arg0 : FVec F S100000x3 .f32) (main_arg1 : FVec F S100000x128 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) : IVec S_ 1 :=
  let main_cst : FVec F S_ .f32 := constant S_ .f32 0x00000000#32
  let main_v0 : FVec F S128 .f32 := broadcastInDim S128 ![] bcast_S_S128 main_cst
  let main_v1 : IVec S128 1 := cmpf .oeq main_arg3 main_v0
  let main_c : IVec S_ 1 := constantI S_ 1 1#1
  let main_v2 : IVec S_ 1 := (fun x v => Host.reduce IntOp.andi x v reducesTo_S128_S_d0 h_S_) main_v1 main_c
  let main_cst_0 : FVec F S_ .f32 := constant S_ .f32 0x00000000#32
  let main_v3 : FVec F S128 .f32 := broadcastInDim S128 ![] bcast_S_S128 main_cst_0
  let main_v4 : IVec S128 1 := cmpf .oeq main_arg5 main_v3
  let main_c_1 : IVec S_ 1 := constantI S_ 1 1#1
  let main_v5 : IVec S_ 1 := (fun x v => Host.reduce IntOp.andi x v reducesTo_S128_S_d0 h_S_) main_v4 main_c_1
  let main_v6 : IVec S_ 1 := andi main_v2 main_v5
  let main_cst_2 : FVec F S_ .f32 := constant S_ .f32 0x00000000#32
  let main_v7 : FVec F S128 .f32 := broadcastInDim S128 ![] bcast_S_S128 main_cst_2
  let main_v8 : IVec S128 1 := cmpf .oeq main_arg7 main_v7
  let main_c_3 : IVec S_ 1 := constantI S_ 1 1#1
  let main_v9 : IVec S_ 1 := (fun x v => Host.reduce IntOp.andi x v reducesTo_S128_S_d0 h_S_) main_v8 main_c_3
  let main_v10 : IVec S_ 1 := andi main_v6 main_v9
  main_v10
-- ==== Kernel.lean ====
abbrev S100000x3 : Shape := ⟨2, ![100000, 3]⟩
abbrev S100000x128 : Shape := ⟨2, ![100000, 128]⟩
abbrev S128x128 : Shape := ⟨2, ![128, 128]⟩
abbrev S128 : Shape := ⟨1, ![128]⟩
abbrev S4x4000x128 : Shape := ⟨3, ![4, 4000, 128]⟩
abbrev S4 : Shape := ⟨1, ![4]⟩
abbrev S1 : Shape := ⟨1, ![1]⟩
abbrev S_ : Shape := ⟨0, ![]⟩
abbrev S1x4000x128 : Shape := ⟨3, ![1, 4000, 128]⟩
abbrev S4000x128 : Shape := ⟨2, ![4000, 128]⟩

abbrev nBuf : Space → Nat
  | .hbm => 9
  | .vmem => 5
  | .smem => 0
  | _ => 0

abbrev bufTy : (tb : Table) → Fin (tcTables nBuf tb) → BufTy
  | .hbm, ⟨0, _⟩ => ⟨S100000x3, .f32⟩
  | .hbm, ⟨1, _⟩ => ⟨S100000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S100000x128, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S4x4000x128, .f32⟩
  | .local _ .vmem, ⟨4, _⟩ => ⟨S4x4000x128, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![25], ![false]⟩

def k0_cond3 (i : grid0.Coords) : BitVec 1 :=
  let arg0 : BitVec 32 := BitVec.ofNat 32 (i 0).val
  let c2_i32 : BitVec 32 := 2#32
  let v6 : BitVec 32 := Scalar.addi arg0 c2_i32
  let c25_i32 : BitVec 32 := 25#32
  let v7 : BitVec 1 := Scalar.cmpi .slt v6 c25_i32
  let v8 : BitVec 32 := Scalar.extui v7
  let c0_i32_3 : BitVec 32 := 0#32
  let v9 : BitVec 1 := Scalar.cmpi .ne v8 c0_i32_3
  v9

def k0_off1 (i : grid0.Coords) : Fin 1 → Nat :=
  let arg0 : BitVec 32 := BitVec.ofNat 32 (i 0).val
  let c2_i32_47 : BitVec 32 := 2#32
  let v78 : BitVec 32 := Scalar.addi arg0 c2_i32_47
  let c4_i32_48 : BitVec 32 := 4#32
  let v79 : BitVec 32 := Scalar.remsi v78 c4_i32_48
  ![v79.toNat]
def k0_off2 (i : grid0.Coords) : Fin 3 → Nat :=
  let arg0 : BitVec 32 := BitVec.ofNat 32 (i 0).val
  let c2_i32_47 : BitVec 32 := 2#32
  let v78 : BitVec 32 := Scalar.addi arg0 c2_i32_47
  let c4_i32_48 : BitVec 32 := 4#32
  let v79 : BitVec 32 := Scalar.remsi v78 c4_i32_48
  let c0_i32_50 : BitVec 32 := 0#32
  let c0_i32_51 : BitVec 32 := 0#32
  ![v79.toNat, 0, 0]
def k0_off3 (i : grid0.Coords) : Fin 2 → Nat :=
  let arg0 : BitVec 32 := BitVec.ofNat 32 (i 0).val
  let c2_i32_46 : BitVec 32 := 2#32
  let v77 : BitVec 32 := Scalar.addi arg0 c2_i32_46
  let c4000_i32_49 : BitVec 32 := 4000#32
  let v80 : BitVec 32 := Scalar.muli v77 c4000_i32_49
  let c0_i32_52 : BitVec 32 := 0#32
  ![v80.toNat, 0]
def k0_off4 (i : grid0.Coords) : Fin 1 → Nat :=
  let arg0 : BitVec 32 := BitVec.ofNat 32 (i 0).val
  let c4_i32 : BitVec 32 := 4#32
  let v10 : BitVec 32 := Scalar.remsi arg0 c4_i32
  ![v10.toNat]
def k0_off5 (i : grid0.Coords) : Fin 3 → Nat :=
  let arg0 : BitVec 32 := BitVec.ofNat 32 (i 0).val
  let c4_i32 : BitVec 32 := 4#32
  let v10 : BitVec 32 := Scalar.remsi arg0 c4_i32
  let c0_i32_4 : BitVec 32 := 0#32
  let c0_i32_5 : BitVec 32 := 0#32
  ![v10.toNat, 0, 0]
def k0_off6 (i : grid0.Coords) : Fin 2 → Nat :=
  let arg0 : BitVec 32 := BitVec.ofNat 32 (i 0).val
  let c4000_i32 : BitVec 32 := 4000#32
  let v11 : BitVec 32 := Scalar.muli arg0 c4000_i32
  let c0_i32_6 : BitVec 32 := 0#32
  ![v11.toNat, 0]
def k0_cond4 (i : grid0.Coords) : BitVec 1 :=
  let arg0 : BitVec 32 := BitVec.ofNat 32 (i 0).val
  let c4_i32_7 : BitVec 32 := 4#32
  let v17 : BitVec 1 := Scalar.cmpi .sge arg0 c4_i32_7
  let v18 : BitVec 32 := Scalar.extui v17
  let c0_i32_8 : BitVec 32 := 0#32
  let v19 : BitVec 1 := Scalar.cmpi .ne v18 c0_i32_8
  v19

def k0_off7 (i : grid0.Coords) : Fin 1 → Nat :=
  let arg0 : BitVec 32 := BitVec.ofNat 32 (i 0).val
  let c4_i32 : BitVec 32 := 4#32
  let v10 : BitVec 32 := Scalar.remsi arg0 c4_i32
  ![v10.toNat]
def k0_off8 (i : grid0.Coords) : Fin 2 → Nat :=
  let arg0 : BitVec 32 := BitVec.ofNat 32 (i 0).val
  let c4_i32_46 : BitVec 32 := 4#32
  let v77 : BitVec 32 := Scalar.subi arg0 c4_i32_46
  let c4000_i32_47 : BitVec 32 := 4000#32
  let v78 : BitVec 32 := Scalar.muli v77 c4000_i32_47
  let c0_i32_48 : BitVec 32 := 0#32
  ![v78.toNat, 0]
def k0_off9 (i : grid0.Coords) : Fin 3 → Nat :=
  let arg0 : BitVec 32 := BitVec.ofNat 32 (i 0).val
  let c4_i32 : BitVec 32 := 4#32
  let v10 : BitVec 32 := Scalar.remsi arg0 c4_i32
  let c0_i32_49 : BitVec 32 := 0#32
  let c0_i32_50 : BitVec 32 := 0#32
  ![v10.toNat, 0, 0]
def k0_off10 (i : grid0.Coords) : Fin 3 → Nat :=
  let arg0 : BitVec 32 := BitVec.ofNat 32 (i 0).val
  let c4_i32 : BitVec 32 := 4#32
  let v10 : BitVec 32 := Scalar.remsi arg0 c4_i32
  let v20 : Index := Scalar.indexCast v10
  let c0 : Index := 0#32
  let c0_9 : Index := 0#32
  ![v20.toNat, 0, 0]
def k0_cond5 (i : grid0.Coords) : BitVec 1 :=
  let arg0 : BitVec 32 := BitVec.ofNat 32 (i 0).val
  let c24_i32 : BitVec 32 := 24#32
  let v57 : BitVec 1 := Scalar.cmpi .eq arg0 c24_i32
  let c0_i32_37 : BitVec 32 := 0#32
  let v58 : BitVec 1 := Scalar.cmpi .sge arg0 c0_i32_37
  let v59 : BitVec 1 := Scalar.andi v57 v58
  let v60 : BitVec 32 := Scalar.extui v59
  let c0_i32_38 : BitVec 32 := 0#32
  let v61 : BitVec 1 := Scalar.cmpi .ne v60 c0_i32_38
  v61

def k0_off11 (i : grid0.Coords) : Fin 1 → Nat :=
  let arg0 : BitVec 32 := BitVec.ofNat 32 (i 0).val
  let c0_i32_47 : BitVec 32 := 0#32
  let v78 : BitVec 32 := Scalar.subi arg0 c0_i32_47
  let c4_i32_48 : BitVec 32 := 4#32
  let v79 : BitVec 32 := Scalar.remsi v78 c4_i32_48
  ![v79.toNat]
def k0_off12 (i : grid0.Coords) : Fin 2 → Nat :=
  let arg0 : BitVec 32 := BitVec.ofNat 32 (i 0).val
  let c0_i32_46 : BitVec 32 := 0#32
  let v77 : BitVec 32 := Scalar.subi arg0 c0_i32_46
  let c4000_i32_49 : BitVec 32 := 4000#32
  let v80 : BitVec 32 := Scalar.muli v77 c4000_i32_49
  let c0_i32_50 : BitVec 32 := 0#32
  ![v80.toNat, 0]
def k0_off13 (i : grid0.Coords) : Fin 3 → Nat :=
  let arg0 : BitVec 32 := BitVec.ofNat 32 (i 0).val
  let c0_i32_47 : BitVec 32 := 0#32
  let v78 : BitVec 32 := Scalar.subi arg0 c0_i32_47
  let c4_i32_48 : BitVec 32 := 4#32
  let v79 : BitVec 32 := Scalar.remsi v78 c4_i32_48
  let c0_i32_51 : BitVec 32 := 0#32
  let c0_i32_52 : BitVec 32 := 0#32
  ![v79.toNat, 0, 0]
def k0_cond6 (i : grid0.Coords) : BitVec 1 :=
  let arg0 : BitVec 32 := BitVec.ofNat 32 (i 0).val
  let c24_i32_39 : BitVec 32 := 24#32
  let v62 : BitVec 1 := Scalar.cmpi .eq arg0 c24_i32_39
  let c1_i32 : BitVec 32 := 1#32
  let v63 : BitVec 1 := Scalar.cmpi .sge arg0 c1_i32
  let v64 : BitVec 1 := Scalar.andi v62 v63
  let v65 : BitVec 32 := Scalar.extui v64
  let c0_i32_40 : BitVec 32 := 0#32
  let v66 : BitVec 1 := Scalar.cmpi .ne v65 c0_i32_40
  v66

def k0_off14 (i : grid0.Coords) : Fin 1 → Nat :=
  let arg0 : BitVec 32 := BitVec.ofNat 32 (i 0).val
  let c1_i32_47 : BitVec 32 := 1#32
  let v78 : BitVec 32 := Scalar.subi arg0 c1_i32_47
  let c4_i32_48 : BitVec 32 := 4#32
  let v79 : BitVec 32 := Scalar.remsi v78 c4_i32_48
  ![v79.toNat]
def k0_off15 (i : grid0.Coords) : Fin 2 → Nat :=
  let arg0 : BitVec 32 := BitVec.ofNat 32 (i 0).val
  let c1_i32_46 : BitVec 32 := 1#32
  let v77 : BitVec 32 := Scalar.subi arg0 c1_i32_46
  let c4000_i32_49 : BitVec 32 := 4000#32
  let v80 : BitVec 32 := Scalar.muli v77 c4000_i32_49
  let c0_i32_50 : BitVec 32 := 0#32
  ![v80.toNat, 0]
def k0_off16 (i : grid0.Coords) : Fin 3 → Nat :=
  let arg0 : BitVec 32 := BitVec.ofNat 32 (i 0).val
  let c1_i32_47 : BitVec 32 := 1#32
  let v78 : BitVec 32 := Scalar.subi arg0 c1_i32_47
  let c4_i32_48 : BitVec 32 := 4#32
  let v79 : BitVec 32 := Scalar.remsi v78 c4_i32_48
  let c0_i32_51 : BitVec 32 := 0#32
  let c0_i32_52 : BitVec 32 := 0#32
  ![v79.toNat, 0, 0]
def k0_cond7 (i : grid0.Coords) : BitVec 1 :=
  let arg0 : BitVec 32 := BitVec.ofNat 32 (i 0).val
  let c24_i32_41 : BitVec 32 := 24#32
  let v67 : BitVec 1 := Scalar.cmpi .eq arg0 c24_i32_41
  let c2_i32_42 : BitVec 32 := 2#32
  let v68 : BitVec 1 := Scalar.cmpi .sge arg0 c2_i32_42
  let v69 : BitVec 1 := Scalar.andi v67 v68
  let v70 : BitVec 32 := Scalar.extui v69
  let c0_i32_43 : BitVec 32 := 0#32
  let v71 : BitVec 1 := Scalar.cmpi .ne v70 c0_i32_43
  v71

def k0_off17 (i : grid0.Coords) : Fin 1 → Nat :=
  let arg0 : BitVec 32 := BitVec.ofNat 32 (i 0).val
  let c2_i32_47 : BitVec 32 := 2#32
  let v78 : BitVec 32 := Scalar.subi arg0 c2_i32_47
  let c4_i32_48 : BitVec 32 := 4#32
  let v79 : BitVec 32 := Scalar.remsi v78 c4_i32_48
  ![v79.toNat]
def k0_off18 (i : grid0.Coords) : Fin 2 → Nat :=
  let arg0 : BitVec 32 := BitVec.ofNat 32 (i 0).val
  let c2_i32_46 : BitVec 32 := 2#32
  let v77 : BitVec 32 := Scalar.subi arg0 c2_i32_46
  let c4000_i32_49 : BitVec 32 := 4000#32
  let v80 : BitVec 32 := Scalar.muli v77 c4000_i32_49
  let c0_i32_50 : BitVec 32 := 0#32
  ![v80.toNat, 0]
def k0_off19 (i : grid0.Coords) : Fin 3 → Nat :=
  let arg0 : BitVec 32 := BitVec.ofNat 32 (i 0).val
  let c2_i32_47 : BitVec 32 := 2#32
  let v78 : BitVec 32 := Scalar.subi arg0 c2_i32_47
  let c4_i32_48 : BitVec 32 := 4#32
  let v79 : BitVec 32 := Scalar.remsi v78 c4_i32_48
  let c0_i32_51 : BitVec 32 := 0#32
  let c0_i32_52 : BitVec 32 := 0#32
  ![v79.toNat, 0, 0]
def k0_cond8 (i : grid0.Coords) : BitVec 1 :=
  let arg0 : BitVec 32 := BitVec.ofNat 32 (i 0).val
  let c24_i32_44 : BitVec 32 := 24#32
  let v72 : BitVec 1 := Scalar.cmpi .eq arg0 c24_i32_44
  let c3_i32 : BitVec 32 := 3#32
  let v73 : BitVec 1 := Scalar.cmpi .sge arg0 c3_i32
  let v74 : BitVec 1 := Scalar.andi v72 v73
  let v75 : BitVec 32 := Scalar.extui v74
  let c0_i32_45 : BitVec 32 := 0#32
  let v76 : BitVec 1 := Scalar.cmpi .ne v75 c0_i32_45
  v76

def k0_off20 (i : grid0.Coords) : Fin 1 → Nat :=
  let arg0 : BitVec 32 := BitVec.ofNat 32 (i 0).val
  let c3_i32_47 : BitVec 32 := 3#32
  let v78 : BitVec 32 := Scalar.subi arg0 c3_i32_47
  let c4_i32_48 : BitVec 32 := 4#32
  let v79 : BitVec 32 := Scalar.remsi v78 c4_i32_48
  ![v79.toNat]
def k0_off21 (i : grid0.Coords) : Fin 2 → Nat :=
  let arg0 : BitVec 32 := BitVec.ofNat 32 (i 0).val
  let c3_i32_46 : BitVec 32 := 3#32
  let v77 : BitVec 32 := Scalar.subi arg0 c3_i32_46
  let c4000_i32_49 : BitVec 32 := 4000#32
  let v80 : BitVec 32 := Scalar.muli v77 c4000_i32_49
  let c0_i32_50 : BitVec 32 := 0#32
  ![v80.toNat, 0]
def k0_off22 (i : grid0.Coords) : Fin 3 → Nat :=
  let arg0 : BitVec 32 := BitVec.ofNat 32 (i 0).val
  let c3_i32_47 : BitVec 32 := 3#32
  let v78 : BitVec 32 := Scalar.subi arg0 c3_i32_47
  let c4_i32_48 : BitVec 32 := 4#32
  let v79 : BitVec 32 := Scalar.remsi v78 c4_i32_48
  let c0_i32_51 : BitVec 32 := 0#32
  let c0_i32_52 : BitVec 32 := 0#32
  ![v79.toNat, 0, 0]
def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S100000x3 : Shape := ⟨2, ![100000, 3]⟩
abbrev S100000x128 : Shape := ⟨2, ![100000, 128]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S100000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S100000x128, .f32⟩
  | .hbm, ⟨9, _⟩ => ⟨S1x128, .f32⟩
  | .hbm, ⟨10, _⟩ => ⟨S100000x128, .f32⟩
  | .hbm, ⟨11, _⟩ => ⟨S100000x128, .f32⟩
  | .hbm, ⟨12, _⟩ => ⟨S100000x128, .f32⟩
  | .hbm, ⟨13, _⟩ => ⟨S1x128, .f32⟩
  | .hbm, ⟨14, _⟩ => ⟨S100000x128, .f32⟩
  | .hbm, ⟨15, _⟩ => ⟨S100000x128, .f32⟩
  | .hbm, ⟨16, _⟩ => ⟨S_, .f32⟩
  | .hbm, ⟨17, _⟩ => ⟨S100000x128, .f32⟩
  | .hbm, ⟨18, _⟩ => ⟨S100000x128, .f32⟩
  | .hbm, ⟨19, _⟩ => ⟨S100000x128, .f32⟩
  | .hbm, ⟨20, _⟩ => ⟨S100000x128, .f32⟩
  | .hbm, ⟨21, _⟩ => ⟨S1x128, .f32⟩
  | .hbm, ⟨22, _⟩ => ⟨S100000x128, .f32⟩
  | .hbm, ⟨23, _⟩ => ⟨S100000x128, .f32⟩
  | .hbm, ⟨24, _⟩ => ⟨S_, .f32⟩
  | .hbm, ⟨25, _⟩ => ⟨S100000x128, .f32⟩
  | .hbm, ⟨26, _⟩ => ⟨S100000x128, .f32⟩
  | .hbm, ⟨27, _⟩ => ⟨S100000x128, .f32⟩
  | .hbm, ⟨28, _⟩ => ⟨S100000x128, .f32⟩
  | .hbm, ⟨29, _⟩ => ⟨S1x128, .f32⟩
  | .hbm, ⟨30, _⟩ => ⟨S100000x128, .f32⟩
  | .hbm, ⟨31, _⟩ => ⟨S100000x128, .f32⟩
  | .hbm, ⟨32, _⟩ => ⟨S_, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S_, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call0_cst : Ref sig .tc := ⟨.hbm, 16, rfl⟩
abbrev main_call0_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call1_cst : Ref sig .tc := ⟨.hbm, 24, rfl⟩
abbrev main_call1_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call2_cst : Ref sig .tc := ⟨.hbm, 32, rfl⟩
abbrev main_call2_v0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_call3_cst : Ref sig .tc := ⟨.hbm, 40, rfl⟩
abbrev main_call3_v0 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]
-- ==== Proof.IdealNames.lean ====
/-
  The kernel's slices under short names: block `b` of the input and of the result (4000 rows each), slot `s` of the
  input ring and of the output ring, and each slot's semaphore. The offsets the kernel computes at a grid point are put
  in closed form here, so that every slice the body takes is one of these names.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.KitQuiescent
public import Idealize.ShloMosaic.Lib.Ring
public import Idealize.ShloMosaic.Lib.Affine
public import Idealize.ShloMosaic.Lib.Tactic

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.ShloMosaic.Ring (sl bk)

/-! ## The memrefs the body slices -/

abbrev xM : Memref sig .tc .hbm S100000x128 .f32 := Memref.whole main_arg1
abbrev yM : Memref sig .tc .hbm S100000x128 .f32 := Memref.whole main_v0
abbrev xbM : Memref sig .tc .vmem S4x4000x128 .f32 := Memref.whole cc0_scratch0
abbrev ybM : Memref sig .tc .vmem S4x4000x128 .f32 := Memref.whole cc0_scratch1

abbrev blkOff (b : Fin 25) : Fin 2 → Nat := ![4000 * b.val, 0]
abbrev slotOff (s : Fin 4) : Fin 3 → Nat := ![s.val, 0, 0]
abbrev semOff (s : Fin 4) : Fin 1 → Nat := ![s.val]

theorem blkOff_inb : ∀ (b : Fin 25) (a), blkOff b a + S4000x128.size a ≤ S100000x128.size a := by decide +kernel
theorem slotOff_inb : ∀ (s : Fin 4) (a), slotOff s a + S1x4000x128.size a ≤ S4x4000x128.size a := by decide +kernel
theorem semOff_inb : ∀ (s : Fin 4) (a), semOff s a + S1.size a ≤ S4.size a := by decide +kernel

instance (s : Fin 4) : ClosedOff (slotOff s) := ⟨slotOff s, rfl⟩
instance (b : Fin 25) : ClosedOff (blkOff b) := ⟨blkOff b, rfl⟩

/-- Block `b` of the input: rows `4000 b` to `4000 b + 3999`. -/
def xblk (b : Fin 25) : Memref sig .tc .hbm S4000x128 .f32 :=
  xM.slice (Rect.unit (s := S100000x128) (blkOff b) S4000x128.size (blkOff_inb b)) (fun _ => rfl)
/-- Block `b` of the result. -/
def yblk (b : Fin 25) : Memref sig .tc .hbm S4000x128 .f32 :=
  yM.slice (Rect.unit (s := S100000x128) (blkOff b) S4000x128.size (blkOff_inb b)) (fun _ => rfl)
/-- Slot `s` of the input ring. -/
def xslot (s : Fin 4) : Memref sig .tc .vmem S4000x128 .f32 :=
  (xbM.slice (Rect.unit (s := S4x4000x128) (slotOff s) S1x4000x128.size (slotOff_inb s)) (fun _ => rfl)).squeeze S4000x128 squeezes_S1x4000x128_S4000x128
/-- Slot `s` of the output ring. -/
def yslot (s : Fin 4) : Memref sig .tc .vmem S4000x128 .f32 :=
  (ybM.slice (Rect.unit (s := S4x4000x128) (slotOff s) S1x4000x128.size (slotOff_inb s)) (fun _ => rfl)).squeeze S4000x128 squeezes_S1x4000x128_S4000x128
/-- The semaphore of input slot `s`. -/
def xsem (s : Fin 4) : DmaSems sig S_ := (cc0_scratch2.slice (Rect.unit (s := S4) (semOff s) S1.size (semOff_inb s))).squeeze S_ squeezes_S1_S_
/-- The semaphore of output slot `s`. -/
def ysem (s : Fin 4) : DmaSems sig S_ := (cc0_scratch3.slice (Rect.unit (s := S4) (semOff s) S1.size (semOff_inb s))).squeeze S_ squeezes_S1_S_

/-! ## The branch conditions and the offsets in closed form, at the grid point `i` -/

theorem cond0_iff : ∀ i : grid0.Coords,
    Scalar.cmpi .ne (Scalar.extui (Scalar.cmpi .eq (BitVec.ofNat 32 (i 0).val) 0#32) : BitVec 32) 0#32 = 1#1 ↔ (i 0).val = 0 := by decide +kernel
theorem cond3_iff : ∀ i : grid0.Coords, k0_cond3 i = 1#1 ↔ (i 0).val + 2 < 25 := by decide +kernel
theorem cond4_iff : ∀ i : grid0.Coords, k0_cond4 i = 1#1 ↔ 4 ≤ (i 0).val := by decide +kernel
theorem cond5_iff : ∀ i : grid0.Coords, k0_cond5 i = 1#1 ↔ (i 0).val = 24 := by decide +kernel
theorem cond6_iff : ∀ i : grid0.Coords, k0_cond6 i = 1#1 ↔ (i 0).val = 24 := by decide +kernel
theorem cond7_iff : ∀ i : grid0.Coords, k0_cond7 i = 1#1 ↔ (i 0).val = 24 := by decide +kernel
theorem cond8_iff : ∀ i : grid0.Coords, k0_cond8 i = 1#1 ↔ (i 0).val = 24 := by decide +kernel

theorem off1_nf : ∀ i : grid0.Coords, k0_off1 i = semOff (sl 4 ((i 0).val + 2)) := by decide +kernel
theorem off2_nf : ∀ i : grid0.Coords, k0_off2 i = slotOff (sl 4 ((i 0).val + 2)) := by decide +kernel
theorem off3_nf : ∀ i : grid0.Coords, (i 0).val + 2 < 25 → k0_off3 i = blkOff (bk 25 ((i 0).val + 2)) := by decide +kernel
theorem off4_nf : ∀ i : grid0.Coords, k0_off4 i = semOff (sl 4 (i 0).val) := by decide +kernel
theorem off5_nf : ∀ i : grid0.Coords, k0_off5 i = slotOff (sl 4 (i 0).val) := by decide +kernel
theorem off6_nf : ∀ i : grid0.Coords, k0_off6 i = blkOff (bk 25 (i 0).val) := by decide +kernel
theorem off7_nf : ∀ i : grid0.Coords, k0_off7 i = semOff (sl 4 (i 0).val) := by decide +kernel
theorem off8_nf : ∀ i : grid0.Coords, 4 ≤ (i 0).val → k0_off8 i = blkOff (bk 25 ((i 0).val - 4)) := by decide +kernel
theorem off9_nf : ∀ i : grid0.Coords, k0_off9 i = slotOff (sl 4 (i 0).val) := by decide +kernel
theorem off10_nf : ∀ i : grid0.Coords, k0_off10 i = slotOff (sl 4 (i 0).val) := by decide +kernel
theorem off11_nf : ∀ i : grid0.Coords, k0_off11 i = semOff (sl 4 (i 0).val) := by decide +kernel
theorem off12_nf : ∀ i : grid0.Coords, k0_off12 i = blkOff (bk 25 (i 0).val) := by decide +kernel
theorem off13_nf : ∀ i : grid0.Coords, k0_off13 i = slotOff (sl 4 (i 0).val) := by decide +kernel
theorem off14_nf : ∀ i : grid0.Coords, (i 0).val = 24 → k0_off14 i = semOff (sl 4 ((i 0).val + 3)) := by decide +kernel
theorem off15_nf : ∀ i : grid0.Coords, (i 0).val = 24 → k0_off15 i = blkOff (bk 25 ((i 0).val - 1)) := by decide +kernel
theorem off16_nf : ∀ i : grid0.Coords, (i 0).val = 24 → k0_off16 i = slotOff (sl 4 ((i 0).val + 3)) := by decide +kernel
theorem off17_nf : ∀ i : grid0.Coords, (i 0).val = 24 → k0_off17 i = semOff (sl 4 ((i 0).val + 2)) := by decide +kernel
theorem off18_nf : ∀ i : grid0.Coords, (i 0).val = 24 → k0_off18 i = blkOff (bk 25 ((i 0).val - 2)) := by decide +kernel
theorem off19_nf : ∀ i : grid0.Coords, (i 0).val = 24 → k0_off19 i = slotOff (sl 4 ((i 0).val + 2)) := by decide +kernel
theorem off20_nf : ∀ i : grid0.Coords, (i 0).val = 24 → k0_off20 i = semOff (sl 4 ((i 0).val + 1)) := by decide +kernel
theorem off21_nf : ∀ i : grid0.Coords, (i 0).val = 24 → k0_off21 i = blkOff (bk 25 ((i 0).val - 3)) := by decide +kernel
theorem off22_nf : ∀ i : grid0.Coords, (i 0).val = 24 → k0_off22 i = slotOff (sl 4 ((i 0).val + 1)) := by decide +kernel

instance slotClosed (i : grid0.Coords) : ClosedOff (k0_off10 i) := ⟨slotOff (sl 4 (i 0).val), off10_nf i⟩

/-! ## A slice at an offset known in closed form is the named one -/

theorem xsem_of {off : Fin 1 → Nat} {s : Fin 4} (e : off = semOff s) (hh) :
    (cc0_scratch2.slice (Rect.unit (s := S4) off S1.size hh)).squeeze S_ squeezes_S1_S_ = xsem s :=
  congrArg (fun A : DmaSems sig S1 => A.squeeze S_ squeezes_S1_S_) (SemArray.slice_unit_congr _ e _ _)
theorem ysem_of {off : Fin 1 → Nat} {s : Fin 4} (e : off = semOff s) (hh) :
    (cc0_scratch3.slice (Rect.unit (s := S4) off S1.size hh)).squeeze S_ squeezes_S1_S_ = ysem s :=
  congrArg (fun A : DmaSems sig S1 => A.squeeze S_ squeezes_S1_S_) (SemArray.slice_unit_congr _ e _ _)
theorem xslot_of {off : Fin 3 → Nat} {s : Fin 4} (e : off = slotOff s) (hh hs) :
    (xbM.slice (Rect.unit (s := S4x4000x128) off S1x4000x128.size hh) hs).squeeze S4000x128 squeezes_S1x4000x128_S4000x128 = xslot s :=
  congrArg (fun M : Memref sig .tc .vmem S1x4000x128 .f32 => M.squeeze S4000x128 squeezes_S1x4000x128_S4000x128) (Memref.slice_unit_congr _ e _ _ _ _)
theorem yslot_of {off : Fin 3 → Nat} {s : Fin 4} (e : off = slotOff s) (hh hs) :
    (ybM.slice (Rect.unit (s := S4x4000x128) off S1x4000x128.size hh) hs).squeeze S4000x128 squeezes_S1x4000x128_S4000x128 = yslot s :=
  congrArg (fun M : Memref sig .tc .vmem S1x4000x128 .f32 => M.squeeze S4000x128 squeezes_S1x4000x128_S4000x128) (Memref.slice_unit_congr _ e _ _ _ _)
theorem xblk_of {off : Fin 2 → Nat} {b : Fin 25} (e : off = blkOff b) (hh hs) :
    xM.slice (Rect.unit (s := S100000x128) off S4000x128.size hh) hs = xblk b := Memref.slice_unit_congr _ e _ _ _ (fun _ => rfl)
theorem yblk_of {off : Fin 2 → Nat} {b : Fin 25} (e : off = blkOff b) (hh hs) :
    yM.slice (Rect.unit (s := S100000x128) off S4000x128.size hh) hs = yblk b := Memref.slice_unit_congr _ e _ _ _ (fun _ => rfl)

section Canon
variable (i : grid0.Coords)

/-! The first point's two early transfers, by their literal offsets: there the point is 0. -/
theorem xsem_lit0 (h : (i 0).val = 0) (hh) : (cc0_scratch2.slice (Rect.unit (s := S4) ![0] S1.size hh)).squeeze S_ squeezes_S1_S_ = xsem (sl 4 (i 0).val) := xsem_of (by rw [h]; decide) _
theorem xsem_lit1 (h : (i 0).val = 0) (hh) : (cc0_scratch2.slice (Rect.unit (s := S4) ![1] S1.size hh)).squeeze S_ squeezes_S1_S_ = xsem (sl 4 ((i 0).val + 1)) := xsem_of (by rw [h]; decide) _
theorem xslot_lit0 (h : (i 0).val = 0) (hh hs) : (xbM.slice (Rect.unit (s := S4x4000x128) ![0, 0, 0] S1x4000x128.size hh) hs).squeeze S4000x128 squeezes_S1x4000x128_S4000x128 = xslot (sl 4 (i 0).val) := xslot_of (by rw [h]; decide) _ _
theorem xslot_lit1 (h : (i 0).val = 0) (hh hs) : (xbM.slice (Rect.unit (s := S4x4000x128) ![1, 0, 0] S1x4000x128.size hh) hs).squeeze S4000x128 squeezes_S1x4000x128_S4000x128 = xslot (sl 4 ((i 0).val + 1)) := xslot_of (by rw [h]; decide) _ _
theorem xblk_lit0 (h : (i 0).val = 0) (hh hs) : xM.slice (Rect.unit (s := S100000x128) ![0, 0] S4000x128.size hh) hs = xblk (bk 25 (i 0).val) := xblk_of (by rw [h]; decide) _ _
theorem xblk_lit1 (h : (i 0).val = 0) (hh hs) : xM.slice (Rect.unit (s := S100000x128) ![4000, 0] S4000x128.size hh) hs = xblk (bk 25 ((i 0).val + 1)) := xblk_of (by rw [h]; decide) _ _

/-! The transfer started two steps ahead. -/
@[sl_canon] theorem xsem_ahead (hh) : (cc0_scratch2.slice (Rect.unit (s := S4) (k0_off1 i) S1.size hh)).squeeze S_ squeezes_S1_S_ = xsem (sl 4 ((i 0).val + 2)) := xsem_of (off1_nf i) _
@[sl_canon] theorem xslot_ahead (hh hs) : (xbM.slice (Rect.unit (s := S4x4000x128) (k0_off2 i) S1x4000x128.size hh) hs).squeeze S4000x128 squeezes_S1x4000x128_S4000x128 = xslot (sl 4 ((i 0).val + 2)) := xslot_of (off2_nf i) _ _
@[sl_canon] theorem xblk_ahead (h : (i 0).val + 2 < 25) (hh hs) : xM.slice (Rect.unit (s := S100000x128) (k0_off3 i) S4000x128.size hh) hs = xblk (bk 25 ((i 0).val + 2)) := xblk_of (off3_nf i h) _ _

/-! The block waited and computed at this point. -/
@[sl_canon] theorem xsem_here (hh) : (cc0_scratch2.slice (Rect.unit (s := S4) (k0_off4 i) S1.size hh)).squeeze S_ squeezes_S1_S_ = xsem (sl 4 (i 0).val) := xsem_of (off4_nf i) _
@[sl_canon] theorem xslot_here (hh hs) : (xbM.slice (Rect.unit (s := S4x4000x128) (k0_off5 i) S1x4000x128.size hh) hs).squeeze S4000x128 squeezes_S1x4000x128_S4000x128 = xslot (sl 4 (i 0).val) := xslot_of (off5_nf i) _ _
@[sl_canon] theorem xblk_here (hh hs) : xM.slice (Rect.unit (s := S100000x128) (k0_off6 i) S4000x128.size hh) hs = xblk (bk 25 (i 0).val) := xblk_of (off6_nf i) _ _
@[sl_canon] theorem ysem_here (hh) : (cc0_scratch3.slice (Rect.unit (s := S4) (k0_off4 i) S1.size hh)).squeeze S_ squeezes_S1_S_ = ysem (sl 4 (i 0).val) := ysem_of (off4_nf i) _
@[sl_canon] theorem yslot_here (hh hs) : (ybM.slice (Rect.unit (s := S4x4000x128) (k0_off5 i) S1x4000x128.size hh) hs).squeeze S4000x128 squeezes_S1x4000x128_S4000x128 = yslot (sl 4 (i 0).val) := yslot_of (off5_nf i) _ _
@[sl_canon] theorem yblk_here (hh hs) : yM.slice (Rect.unit (s := S100000x128) (k0_off6 i) S4000x128.size hh) hs = yblk (bk 25 (i 0).val) := yblk_of (off6_nf i) _ _

/-! The write-back of four steps earlier, waited before its slot is used again. -/
@[sl_canon] theorem ysem_back (hh) : (cc0_scratch3.slice (Rect.unit (s := S4) (k0_off7 i) S1.size hh)).squeeze S_ squeezes_S1_S_ = ysem (sl 4 (i 0).val) := ysem_of (off7_nf i) _
@[sl_canon] theorem yblk_back (h : 4 ≤ (i 0).val) (hh hs) : yM.slice (Rect.unit (s := S100000x128) (k0_off8 i) S4000x128.size hh) hs = yblk (bk 25 ((i 0).val - 4)) := yblk_of (off8_nf i h) _ _
@[sl_canon] theorem yslot_back (hh hs) : (ybM.slice (Rect.unit (s := S4x4000x128) (k0_off9 i) S1x4000x128.size hh) hs).squeeze S4000x128 squeezes_S1x4000x128_S4000x128 = yslot (sl 4 (i 0).val) := yslot_of (off9_nf i) _ _

/-! The last point's four waits. -/
@[sl_canon] theorem ysem_end0 (hh) : (cc0_scratch3.slice (Rect.unit (s := S4) (k0_off11 i) S1.size hh)).squeeze S_ squeezes_S1_S_ = ysem (sl 4 (i 0).val) := ysem_of (off11_nf i) _
@[sl_canon] theorem yblk_end0 (hh hs) : yM.slice (Rect.unit (s := S100000x128) (k0_off12 i) S4000x128.size hh) hs = yblk (bk 25 (i 0).val) := yblk_of (off12_nf i) _ _
@[sl_canon] theorem yslot_end0 (hh hs) : (ybM.slice (Rect.unit (s := S4x4000x128) (k0_off13 i) S1x4000x128.size hh) hs).squeeze S4000x128 squeezes_S1x4000x128_S4000x128 = yslot (sl 4 (i 0).val) := yslot_of (off13_nf i) _ _
@[sl_canon] theorem ysem_end1 (h : (i 0).val = 24) (hh) : (cc0_scratch3.slice (Rect.unit (s := S4) (k0_off14 i) S1.size hh)).squeeze S_ squeezes_S1_S_ = ysem (sl 4 ((i 0).val + 3)) := ysem_of (off14_nf i h) _
@[sl_canon] theorem yblk_end1 (h : (i 0).val = 24) (hh hs) : yM.slice (Rect.unit (s := S100000x128) (k0_off15 i) S4000x128.size hh) hs = yblk (bk 25 ((i 0).val - 1)) := yblk_of (off15_nf i h) _ _
@[sl_canon] theorem yslot_end1 (h : (i 0).val = 24) (hh hs) : (ybM.slice (Rect.unit (s := S4x4000x128) (k0_off16 i) S1x4000x128.size hh) hs).squeeze S4000x128 squeezes_S1x4000x128_S4000x128 = yslot (sl 4 ((i 0).val + 3)) := yslot_of (off16_nf i h) _ _
@[sl_canon] theorem ysem_end2 (h : (i 0).val = 24) (hh) : (cc0_scratch3.slice (Rect.unit (s := S4) (k0_off17 i) S1.size hh)).squeeze S_ squeezes_S1_S_ = ysem (sl 4 ((i 0).val + 2)) := ysem_of (off17_nf i h) _
@[sl_canon] theorem yblk_end2 (h : (i 0).val = 24) (hh hs) : yM.slice (Rect.unit (s := S100000x128) (k0_off18 i) S4000x128.size hh) hs = yblk (bk 25 ((i 0).val - 2)) := yblk_of (off18_nf i h) _ _
@[sl_canon] theorem yslot_end2 (h : (i 0).val = 24) (hh hs) : (ybM.slice (Rect.unit (s := S4x4000x128) (k0_off19 i) S1x4000x128.size hh) hs).squeeze S4000x128 squeezes_S1x4000x128_S4000x128 = yslot (sl 4 ((i 0).val + 2)) := yslot_of (off19_nf i h) _ _
@[sl_canon] theorem ysem_end3 (h : (i 0).val = 24) (hh) : (cc0_scratch3.slice (Rect.unit (s := S4) (k0_off20 i) S1.size hh)).squeeze S_ squeezes_S1_S_ = ysem (sl 4 ((i 0).val + 1)) := ysem_of (off20_nf i h) _
@[sl_canon] theorem yblk_end3 (h : (i 0).val = 24) (hh hs) : yM.slice (Rect.unit (s := S100000x128) (k0_off21 i) S4000x128.size hh) hs = yblk (bk 25 ((i 0).val - 3)) := yblk_of (off21_nf i h) _ _
@[sl_canon] theorem yslot_end3 (h : (i 0).val = 24) (hh hs) : (ybM.slice (Rect.unit (s := S4x4000x128) (k0_off22 i) S1x4000x128.size hh) hs).squeeze S4000x128 squeezes_S1x4000x128_S4000x128 = yslot (sl 4 ((i 0).val + 1)) := yslot_of (off22_nf i h) _ _

end Canon

end Cert.KernelIdeal.Hand
-- ==== Proof.IdealStep.lean ====
/-
  One grid point of the kernel, run at a symbolic point. The pieces: an input block at home, an input slot free or
  being filled, a result block not yet written, an output slot free or being copied out. A step takes the pieces the
  point touches and hands them back as the next point finds them.
-/
module

public import proofs.«01_k».proof.Proof.IdealNames

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)

variable {F : FTy → Type} [FloatOps F]

/-- The pipeline's own state beside the counters that the kernel's transfers use. -/
abbrev UU (nD : Nat) (τ : Topo) : Type := UR sig nD τ × Counters
local notation "𝕄" => MT nD τ sig Unit (Elt F) ℕ (UU nD τ) ℕ
abbrev 𝒱₀ : Variants := Variants.none

section Pieces
variable (c : Dev nD)

/-- The contents of the input array, of the result array, of one weight's staging buffer. -/
abbrev XBuf (F : FTy → Type) (c : Dev nD) : Type := Buf (Elt F) (xM.view.loc (c : Thread nD τ))
abbrev YBuf (F : FTy → Type) (c : Dev nD) : Type := Buf (Elt F) (yM.view.loc (c : Thread nD τ))

variable (X : XBuf F c)

/-- Input block `b` at home. -/
abbrev xhome (b : Fin 25) : sProp 𝕄 := (xblk b).view.loc (c : Thread nD τ) ↦[(xblk b).view.set]{fullShare} X
/-- Result block `b` held at `g`. -/
abbrev yheld (b : Fin 25) (g : Buf (Elt F) ((yblk b).view.loc (c : Thread nD τ))) : sProp 𝕄 :=
  (yblk b).view.loc (c : Thread nD τ) ↦[(yblk b).view.set]{fullShare} g
abbrev xslotP (s : Fin 4) (f : Buf (Elt F) ((xslot s).view.loc (c : Thread nD τ))) : sProp 𝕄 :=
  (xslot s).view.loc (c : Thread nD τ) ↦[(xslot s).view.set]{fullShare} f
abbrev yslotP (s : Fin 4) (f : Buf (Elt F) ((yslot s).view.loc (c : Thread nD τ))) : sProp 𝕄 :=
  (yslot s).view.loc (c : Thread nD τ) ↦[(yslot s).view.set]{fullShare} f
abbrev xcell (s : Fin 4) : sProp 𝕄 := semVal ((c : Thread nD τ), SemLoc.dma (xsem s).sem) 0
abbrev ycell (s : Fin 4) : sProp 𝕄 := semVal ((c : Thread nD τ), SemLoc.dma (ysem s).sem) 0

/-- A free slot: its semaphore at zero, the slot at anything. -/
def xfree (s : Fin 4) : sProp 𝕄 := iprop(xcell c s ∗ ∃ f, xslotP c s f)
def yfree (s : Fin 4) : sProp 𝕄 := iprop(ycell c s ∗ ∃ f, yslotP c s f)

/-- A block's transfer moves 64000 units on its semaphore. -/
abbrev NN : ℕ := 64000

/-- What block `b`'s transfer leaves in slot `s`, whose contents were `f`. -/
abbrev landed (s : Fin 4) (b : Fin 25) (f : Buf (Elt F) ((xslot s).view.loc (c : Thread nD τ))) : Buf (Elt F) ((xslot s).view.loc (c : Thread nD τ)) :=
  (xslot s).view.writes (Elt F) f [⟨Rect.whole S4000x128, ReadAs.same.apply ((xblk b).view.read (Elt F) X)⟩]

/-- Input slot `s` being filled with block `b`. -/
def xfly (s : Fin 4) (b : Fin 25) : sProp 𝕄 :=
  iprop(∃ f, Transfers.Flight countersEmb (c : Thread nD τ) (SemLoc.dma (xsem s).sem) () NN iprop(xslotP c s (landed c X s b f) ∗ xhome c X b))

variable (out : Fin 25 → S4000x128.Idx → Elt F .f32)

/-- Result block `b` written: it reads `out b`. -/
def ydone (b : Fin 25) : sProp 𝕄 := iprop(∃ g, ⌜(yblk b).view.read (Elt F) g = out b⌝ ∗ yheld c b g)
/-- Result block `b` not yet written. -/
def ytodo (b : Fin 25) : sProp 𝕄 := iprop(∃ g, yheld (F := F) c b g)
/-- Output slot `s` being copied out to block `b`. -/
def yfly (s : Fin 4) (b : Fin 25) : sProp 𝕄 :=
  iprop(∃ g f, ⌜(yblk b).view.read (Elt F) g = out b⌝
    ∗ Transfers.Flight countersEmb (c : Thread nD τ) (SemLoc.dma (ysem s).sem) () NN iprop(yheld c b g ∗ yslotP c s f))

end Pieces

/-! ## What one point computes -/

section Value

/-- A view read after it was written whole. -/
theorem read_whole {κ : Kind} {sp : Space} {s : Shape} {e : EltTy} (v : View sig κ sp s e) (f : v.ty.Contents (Elt F)) (w : s.Idx → Elt F e) :
    v.read (Elt F) (v.writes (Elt F) f [⟨Rect.whole s, w⟩]) = w := by
  funext x
  have h := View.read_writes_cons_emb v f (Rect.whole s) w [] x
  rwa [show (Rect.whole s).emb x = x from funext fun a => Fin.ext (by simp [Rect.whole, Rect.emb])] at h

variable (c : Dev nD) (X : XBuf F c) (w0 w1 w2 : S128x128.Idx → Elt F .f32)

/-- The result block that block `b` of the input gives under the weights `w0`, `w1`, `w2`. -/
def yval (b : Fin 25) : S4000x128.Idx → Elt F .f32 :=
  shapeCast S4000x128 (k0_pay2 (F := F) (k0_pay1 (shapeCast S1x4000x128 ((xblk b).view.read (Elt F) X) shapeCasts_S4000x128_S1x4000x128) w0 w1) w1 w1 w1 w2)
    shapeCasts_S1x4000x128_S4000x128

/-- An input slot holding `u`, loaded through the whole ring. -/
theorem slot_load (s : Fin 4) {off : Fin 3 → Nat} (e : off = slotOff s) (hh) (f) (u : S4000x128.Idx → Elt F .f32) :
    xbM.view.readAt (Elt F) (Rect.unit (s := S4x4000x128) off S1x4000x128.size hh).toLoadRect
        ((xslot s).view.writes (Elt F) f [⟨Rect.whole S4000x128, u⟩])
      = shapeCast S1x4000x128 u shapeCasts_S4000x128_S1x4000x128 := by
  subst e
  have h := read_whole (F := F) (xslot s).view f u
  funext k
  have h' := congrFun h (Shape.reshapeEquiv shapeCasts_S4000x128_S1x4000x128 k)
  refine Eq.trans ?_ h'
  show _ = (xbM.view.readAt (Elt F) (Rect.unit (s := S4x4000x128) (slotOff s) S1x4000x128.size hh).toLoadRect _ (Shape.reshapeEquiv _ (Shape.reshapeEquiv _ k)))
  rw [Shape.reshapeEquiv_reshapeEquiv, Shape.reshapeEquiv_self]

/-- An output slot stored through the whole ring, read back. -/
theorem slot_store (s : Fin 4) {off : Fin 3 → Nat} (e : off = slotOff s) (hh) (f) (v : S1x4000x128.Idx → Elt F .f32) :
    (yslot s).view.read (Elt F) ((ybM.access (Rect.unit (s := S4x4000x128) off S1x4000x128.size hh)).write (Elt F) f v Finset.univ)
      = shapeCast S4000x128 v shapeCasts_S1x4000x128_S4000x128 := by
  subst e
  funext k
  exact congrFun (View.read_write_univ (v := ybM.access (Rect.unit (s := S4x4000x128) (slotOff s) S1x4000x128.size hh)) f v) _

end Value

section Step

variable (c : Dev nD) (X : XBuf F c)
  (a2 : Memref sig .tc .vmem S128x128 .f32) (h2 : a2.IsWhole)
  (a3 : Memref sig .tc .vmem S128x128 .f32) (h3 : a3.IsWhole)
  (a4 : Memref sig .tc .vmem S128x128 .f32) (h4 : a4.IsWhole)
  (g2 : Buf (Elt F) (a2.view.loc (c : Thread nD τ))) (g3 : Buf (Elt F) (a3.view.loc (c : Thread nD τ))) (g4 : Buf (Elt F) (a4.view.loc (c : Thread nD τ)))
  (W : Waits sig Unit)

/-- The three weights' staging buffers. -/
abbrev wts : sProp 𝕄 := iprop((a2.view.loc (c : Thread nD τ) ↦[a2.view.set]{fullShare} g2) ∗ (a3.view.loc (c : Thread nD τ) ↦[a3.view.set]{fullShare} g3)
  ∗ (a4.view.loc (c : Thread nD τ) ↦[a4.view.set]{fullShare} g4))

/-- The body at point `i`, on these staging buffers. -/
abbrev bodyG (i : grid0.Coords) : Prog (TpuEff nD τ sig (Elt F) Λ₀ .tc) PUnit :=
  cc0__mlp_pipeline_kernel i xM (Memref.isWhole_whole _) a2 h2 a3 h3 a4 h4 yM (Memref.isWhole_whole _) xbM (Memref.isWhole_whole _) ybM (Memref.isWhole_whole _) cc0_scratch2 cc0_scratch3

abbrev wrect : LoadRect S128x128 := (Rect.unit (s := S128x128) ![0, 0] S128x128.size inb_S128x128_S128x128_0_0).toLoadRect

variable {w0 w1 w2 : S128x128.Idx → Elt F .f32} (e2 : a2.view.readAt (Elt F) wrect g2 = w0)
  (e3 : a3.view.readAt (Elt F) wrect g3 = w1) (e4 : a4.view.readAt (Elt F) wrect g4 = w2)

variable (w0 w1 w2) in
/-- What the point writes to result block `b'`, over any earlier contents of the slots and of the block, is `yval`. -/
theorem written (i : grid0.Coords) (b b' : Fin 25) (s : Fin 4) (hs : k0_off10 i = slotOff s) (hh) (fx fy gy) :
    (yblk b').view.read (Elt F) ((yblk b').view.writes (Elt F) gy [⟨Rect.whole S4000x128, ReadAs.same.apply ((yslot s).view.read (Elt F)
      ((ybM.access (Rect.unit (s := S4x4000x128) (k0_off10 i) S1x4000x128.size hh)).write (Elt F) fy
        (k0_pay2 (F := F)
          (k0_pay1 (xbM.view.readAt (Elt F) (Rect.unit (s := S4x4000x128) (k0_off10 i) S1x4000x128.size hh).toLoadRect
              ((xslot s).view.writes (Elt F) fx [⟨Rect.whole S4000x128, ReadAs.same.apply ((xblk b).view.read (Elt F) X)⟩])) w0 w1)
          w1 w1 w1 w2)
        Finset.univ))⟩])
      = yval c X w0 w1 w2 b := by
  rw [read_whole, slot_load s hs]
  exact slot_store s hs _ _ _

include e2 e3 e4 in
/-- A middle point, `4 ≤ p` and `p + 2 < 25`: block `p + 2` is started, block `p` waited and computed, and the write-back of block `p - 4` waited. -/
theorem step_mid (i : grid0.Coords) (hp : 4 ≤ (i 0).val) (hq : (i 0).val + 2 < 25) :
    iprop(wts c a2 a3 a4 g2 g3 g4 ∗ owes (c : Thread nD τ) 0 W
      ∗ xhome c X (bk 25 ((i 0).val + 2)) ∗ xfree (F := F) c (sl 4 ((i 0).val + 2)) ∗ xfly c X (sl 4 (i 0).val) (bk 25 (i 0).val) ∗ yfly c (yval c X w0 w1 w2) (sl 4 (i 0).val) (bk 25 ((i 0).val - 4)) ∗ ytodo (F := F) c (bk 25 (i 0).val))
    ⊢ wp frame (wpE (defs₀ (F := F)) 𝒱₀ (c : Thread nD τ) none) Set.univ (bodyG a2 h2 a3 h3 a4 h4 i)
      (fun _ => iprop(wts c a2 a3 a4 g2 g3 g4 ∗ (∃ W, owes (c : Thread nD τ) 0 W)
        ∗ xfly c X (sl 4 ((i 0).val + 2)) (bk 25 ((i 0).val + 2)) ∗ xhome c X (bk 25 (i 0).val) ∗ xfree (F := F) c (sl 4 (i 0).val) ∗ ydone c (yval c X w0 w1 w2) (bk 25 ((i 0).val - 4)) ∗ yfly c (yval c X w0 w1 w2) (sl 4 (i 0).val) (bk 25 (i 0).val))) := by
  have hc0 : ¬ (Scalar.cmpi .ne (Scalar.extui (Scalar.cmpi .eq (BitVec.ofNat 32 (i 0).val) 0#32) : BitVec 32) 0#32 = 1#1) := by rw [cond0_iff]; omega
  have hc3 : k0_cond3 i = 1#1 := by rw [cond3_iff]; omega
  have hc4 : k0_cond4 i = 1#1 := by rw [cond4_iff]; omega
  have hc5 : ¬ k0_cond5 i = 1#1 := by rw [cond5_iff]; omega
  have hc6 : ¬ k0_cond6 i = 1#1 := by rw [cond6_iff]; omega
  have hc7 : ¬ k0_cond7 i = 1#1 := by rw [cond7_iff]; omega
  have hc8 : ¬ k0_cond8 i = 1#1 := by rw [cond8_iff]; omega
  unfold xfree xfly ydone yfly ytodo
  iintro ⟨⟨H2, H3, H4⟩, HW, Hx, ⟨Hc, %fx, Hs⟩, ⟨%f, HF⟩, ⟨%g, %fy, %hg, HG⟩, ⟨%gy, Hy⟩⟩
  dsimp only [bodyG]
  sl_exec
  sl_step
  isplitl [H2 H3 H4]
  · isplitl [H2]; · iexact H2
    isplitl [H3]; · iexact H3
    iexact H4
  isplitl [HW]; · iexists _; iexact HW
  isplitl [Hc]; · iexists _; iexact Hc
  isplitl [HF_src]; · iexact HF_src
  isplitl [HF HF_dst]
  · isplitl [HF]; · iexact HF
    iexists _; iexact HF_dst
  isplitl [HG_dst]
  · iexists _; isplitr [HG_dst]; · ipureintro; exact hg
    iexact HG_dst
  iexists _, _; isplitr [HG]; rotate_left; · iexact HG
  ipureintro; exact written c X w0 w1 w2 i _ _ _ (off10_nf i) _ _ _ _

include e2 e3 e4 in
/-- A point from 1 to 3: as `step_mid`, with the output slot free and nothing to wait on it. -/
theorem step_early (i : grid0.Coords) (h0 : (i 0).val ≠ 0) (hp : (i 0).val < 4) :
    iprop(wts c a2 a3 a4 g2 g3 g4 ∗ owes (c : Thread nD τ) 0 W
      ∗ xhome c X (bk 25 ((i 0).val + 2)) ∗ xfree (F := F) c (sl 4 ((i 0).val + 2)) ∗ xfly c X (sl 4 (i 0).val) (bk 25 (i 0).val) ∗ yfree (F := F) c (sl 4 (i 0).val) ∗ ytodo (F := F) c (bk 25 (i 0).val))
    ⊢ wp frame (wpE (defs₀ (F := F)) 𝒱₀ (c : Thread nD τ) none) Set.univ (bodyG a2 h2 a3 h3 a4 h4 i)
      (fun _ => iprop(wts c a2 a3 a4 g2 g3 g4 ∗ (∃ W, owes (c : Thread nD τ) 0 W)
        ∗ xfly c X (sl 4 ((i 0).val + 2)) (bk 25 ((i 0).val + 2)) ∗ xhome c X (bk 25 (i 0).val) ∗ xfree (F := F) c (sl 4 (i 0).val) ∗ yfly c (yval c X w0 w1 w2) (sl 4 (i 0).val) (bk 25 (i 0).val))) := by
  have hc0 : ¬ (Scalar.cmpi .ne (Scalar.extui (Scalar.cmpi .eq (BitVec.ofNat 32 (i 0).val) 0#32) : BitVec 32) 0#32 = 1#1) := by rw [cond0_iff]; omega
  have hc3 : k0_cond3 i = 1#1 := by rw [cond3_iff]; omega
  have hc4 : ¬ k0_cond4 i = 1#1 := by rw [cond4_iff]; omega
  have hc5 : ¬ k0_cond5 i = 1#1 := by rw [cond5_iff]; omega
  have hc6 : ¬ k0_cond6 i = 1#1 := by rw [cond6_iff]; omega
  have hc7 : ¬ k0_cond7 i = 1#1 := by rw [cond7_iff]; omega
  have hc8 : ¬ k0_cond8 i = 1#1 := by rw [cond8_iff]; omega
  have hq : (i 0).val + 2 < 25 := by omega
  unfold xfree xfly yfly yfree ytodo
  iintro ⟨⟨H2, H3, H4⟩, HW, Hx, ⟨Hc, %fx, Hs⟩, ⟨%f, HF⟩, ⟨HG, %fy, Ho⟩, ⟨%gy, Hy⟩⟩
  dsimp only [bodyG]
  sl_exec
  sl_step
  isplitl [H2 H3 H4]
  · isplitl [H2]; · iexact H2
    isplitl [H3]; · iexact H3
    iexact H4
  isplitl [HW]; · iexists _; iexact HW
  isplitl [Hc]; · iexists _; iexact Hc
  isplitl [HF_src]; · iexact HF_src
  isplitl [HF HF_dst]
  · isplitl [HF]; · iexact HF
    iexists _; iexact HF_dst
  iexists _, _; isplitr [HG]; rotate_left; · iexact HG
  ipureintro; exact written c X w0 w1 w2 i _ _ _ (off10_nf i) _ _ _ _

include e2 e3 e4 in
/-- The first point: blocks 0, 1 and 2 are started, block 0 waited and computed. -/
theorem step_first (i : grid0.Coords) (h0 : (i 0).val = 0) :
    iprop(wts c a2 a3 a4 g2 g3 g4 ∗ owes (c : Thread nD τ) 0 W
      ∗ xhome c X (bk 25 (i 0).val) ∗ xhome c X (bk 25 ((i 0).val + 1)) ∗ xhome c X (bk 25 ((i 0).val + 2)) ∗ xfree (F := F) c (sl 4 (i 0).val) ∗ xfree (F := F) c (sl 4 ((i 0).val + 1)) ∗ xfree (F := F) c (sl 4 ((i 0).val + 2)) ∗ yfree (F := F) c (sl 4 (i 0).val) ∗ ytodo (F := F) c (bk 25 (i 0).val))
    ⊢ wp frame (wpE (defs₀ (F := F)) 𝒱₀ (c : Thread nD τ) none) Set.univ (bodyG a2 h2 a3 h3 a4 h4 i)
      (fun _ => iprop(wts c a2 a3 a4 g2 g3 g4 ∗ (∃ W, owes (c : Thread nD τ) 0 W)
        ∗ xfly c X (sl 4 ((i 0).val + 1)) (bk 25 ((i 0).val + 1)) ∗ xfly c X (sl 4 ((i 0).val + 2)) (bk 25 ((i 0).val + 2)) ∗ xhome c X (bk 25 (i 0).val) ∗ xfree (F := F) c (sl 4 (i 0).val) ∗ yfly c (yval c X w0 w1 w2) (sl 4 (i 0).val) (bk 25 (i 0).val))) := by
  have hc0 : (Scalar.cmpi .ne (Scalar.extui (Scalar.cmpi .eq (BitVec.ofNat 32 (i 0).val) 0#32) : BitVec 32) 0#32 = 1#1) := by rw [cond0_iff]; omega
  have hc3 : k0_cond3 i = 1#1 := by rw [cond3_iff]; omega
  have hc4 : ¬ k0_cond4 i = 1#1 := by rw [cond4_iff]; omega
  have hc5 : ¬ k0_cond5 i = 1#1 := by rw [cond5_iff]; omega
  have hc6 : ¬ k0_cond6 i = 1#1 := by rw [cond6_iff]; omega
  have hc7 : ¬ k0_cond7 i = 1#1 := by rw [cond7_iff]; omega
  have hc8 : ¬ k0_cond8 i = 1#1 := by rw [cond8_iff]; omega
  have hcanon0 := xsem_lit0 i h0 inb_S4_S1_0
  have hcanon1 := xsem_lit1 i h0 inb_S4_S1_1
  have hcanon2 := xslot_lit0 i h0 inb_S4x4000x128_S1x4000x128_0_0_0 (fun _ => rfl)
  have hcanon3 := xslot_lit1 i h0 inb_S4x4000x128_S1x4000x128_1_0_0 (fun _ => rfl)
  have hcanon4 := xblk_lit0 i h0 inb_S100000x128_S4000x128_0_0 (fun _ => rfl)
  have hcanon5 := xblk_lit1 i h0 inb_S100000x128_S4000x128_4000_0 (fun _ => rfl)
  have hq : (i 0).val + 2 < 25 := by omega
  unfold xfree xfly yfly yfree ytodo
  iintro ⟨⟨H2, H3, H4⟩, HW, Hx, Hx1, Hx2, ⟨Hc, %fx, Hs⟩, ⟨Hc1, %fx1, Hs1⟩, ⟨Hc2, %fx2, Hs2⟩, ⟨HG, %fy, Ho⟩, ⟨%gy, Hy⟩⟩
  dsimp only [bodyG]
  sl_exec
  sl_step
  isplitl [H2 H3 H4]
  · isplitl [H2]; · iexact H2
    isplitl [H3]; · iexact H3
    iexact H4
  isplitl [HW]; · iexists _; iexact HW
  isplitl [Hc1]; · iexists _; iexact Hc1
  isplitl [Hc2]; · iexists _; iexact Hc2
  isplitl [Hx]; · iexact Hx
  isplitl [Hc Hs]
  · isplitl [Hc]; · iexact Hc
    iexists _; iexact Hs
  iexists _, _; isplitr [HG]; rotate_left; · iexact HG
  ipureintro; exact written c X w0 w1 w2 i _ _ _ (off10_nf i) _ _ _ _

include e2 e3 e4 in
/-- Point 23: nothing is left to start. -/
theorem step_late (i : grid0.Coords) (h23 : (i 0).val = 23) :
    iprop(wts c a2 a3 a4 g2 g3 g4 ∗ owes (c : Thread nD τ) 0 W
      ∗ xfly c X (sl 4 (i 0).val) (bk 25 (i 0).val) ∗ yfly c (yval c X w0 w1 w2) (sl 4 (i 0).val) (bk 25 ((i 0).val - 4)) ∗ ytodo (F := F) c (bk 25 (i 0).val))
    ⊢ wp frame (wpE (defs₀ (F := F)) 𝒱₀ (c : Thread nD τ) none) Set.univ (bodyG a2 h2 a3 h3 a4 h4 i)
      (fun _ => iprop(wts c a2 a3 a4 g2 g3 g4 ∗ (∃ W, owes (c : Thread nD τ) 0 W)
        ∗ xhome c X (bk 25 (i 0).val) ∗ xfree (F := F) c (sl 4 (i 0).val) ∗ ydone c (yval c X w0 w1 w2) (bk 25 ((i 0).val - 4)) ∗ yfly c (yval c X w0 w1 w2) (sl 4 (i 0).val) (bk 25 (i 0).val))) := by
  have hc0 : ¬ (Scalar.cmpi .ne (Scalar.extui (Scalar.cmpi .eq (BitVec.ofNat 32 (i 0).val) 0#32) : BitVec 32) 0#32 = 1#1) := by rw [cond0_iff]; omega
  have hc3 : ¬ k0_cond3 i = 1#1 := by rw [cond3_iff]; omega
  have hc4 : k0_cond4 i = 1#1 := by rw [cond4_iff]; omega
  have hc5 : ¬ k0_cond5 i = 1#1 := by rw [cond5_iff]; omega
  have hc6 : ¬ k0_cond6 i = 1#1 := by rw [cond6_iff]; omega
  have hc7 : ¬ k0_cond7 i = 1#1 := by rw [cond7_iff]; omega
  have hc8 : ¬ k0_cond8 i = 1#1 := by rw [cond8_iff]; omega
  have hp : 4 ≤ (i 0).val := by omega
  unfold xfree xfly ydone yfly ytodo
  iintro ⟨⟨H2, H3, H4⟩, HW, ⟨%f, HF⟩, ⟨%g, %fy, %hg, HG⟩, ⟨%gy, Hy⟩⟩
  dsimp only [bodyG]
  sl_exec
  sl_step
  isplitl [H2 H3 H4]
  · isplitl [H2]; · iexact H2
    isplitl [H3]; · iexact H3
    iexact H4
  isplitl [HW]; · iexists _; iexact HW
  isplitl [HF_src]; · iexact HF_src
  isplitl [HF HF_dst]
  · isplitl [HF]; · iexact HF
    iexists _; iexact HF_dst
  isplitl [HG_dst]
  · iexists _; isplitr [HG_dst]; · ipureintro; exact hg
    iexact HG_dst
  iexists _, _; isplitr [HG]; rotate_left; · iexact HG
  ipureintro; exact written c X w0 w1 w2 i _ _ _ (off10_nf i) _ _ _ _

include e2 e3 e4 in
/-- The last point: after its own write-back every write-back still out is waited. -/
theorem step_last (i : grid0.Coords) (h24 : (i 0).val = 24) :
    iprop(wts c a2 a3 a4 g2 g3 g4 ∗ owes (c : Thread nD τ) 0 W
      ∗ xfly c X (sl 4 (i 0).val) (bk 25 (i 0).val) ∗ yfly c (yval c X w0 w1 w2) (sl 4 (i 0).val) (bk 25 ((i 0).val - 4)) ∗ yfly c (yval c X w0 w1 w2) (sl 4 ((i 0).val + 1)) (bk 25 ((i 0).val - 3)) ∗ yfly c (yval c X w0 w1 w2) (sl 4 ((i 0).val + 2)) (bk 25 ((i 0).val - 2)) ∗ yfly c (yval c X w0 w1 w2) (sl 4 ((i 0).val + 3)) (bk 25 ((i 0).val - 1)) ∗ ytodo (F := F) c (bk 25 (i 0).val))
    ⊢ wp frame (wpE (defs₀ (F := F)) 𝒱₀ (c : Thread nD τ) none) Set.univ (bodyG a2 h2 a3 h3 a4 h4 i)
      (fun _ => iprop(wts c a2 a3 a4 g2 g3 g4 ∗ (∃ W, owes (c : Thread nD τ) 0 W)
        ∗ xhome c X (bk 25 (i 0).val) ∗ xfree (F := F) c (sl 4 (i 0).val) ∗ ydone c (yval c X w0 w1 w2) (bk 25 ((i 0).val - 4)) ∗ ydone c (yval c X w0 w1 w2) (bk 25 ((i 0).val - 3)) ∗ ydone c (yval c X w0 w1 w2) (bk 25 ((i 0).val - 2)) ∗ ydone c (yval c X w0 w1 w2) (bk 25 ((i 0).val - 1)) ∗ ydone c (yval c X w0 w1 w2) (bk 25 (i 0).val) ∗ yfree (F := F) c (sl 4 (i 0).val) ∗ yfree (F := F) c (sl 4 ((i 0).val + 1)) ∗ yfree (F := F) c (sl 4 ((i 0).val + 2)) ∗ yfree (F := F) c (sl 4 ((i 0).val + 3)))) := by
  have hc0 : ¬ (Scalar.cmpi .ne (Scalar.extui (Scalar.cmpi .eq (BitVec.ofNat 32 (i 0).val) 0#32) : BitVec 32) 0#32 = 1#1) := by rw [cond0_iff]; omega
  have hc3 : ¬ k0_cond3 i = 1#1 := by rw [cond3_iff]; omega
  have hc4 : k0_cond4 i = 1#1 := by rw [cond4_iff]; omega
  have hc5 : k0_cond5 i = 1#1 := by rw [cond5_iff]; omega
  have hc6 : k0_cond6 i = 1#1 := by rw [cond6_iff]; omega
  have hc7 : k0_cond7 i = 1#1 := by rw [cond7_iff]; omega
  have hc8 : k0_cond8 i = 1#1 := by rw [cond8_iff]; omega
  have hp : 4 ≤ (i 0).val := by omega
  unfold xfree xfly ydone yfly yfree ytodo
  iintro ⟨⟨H2, H3, H4⟩, HW, ⟨%f, HF⟩, ⟨%g, %fy, %hg, HG⟩, ⟨%g1, %fy1, %hg1, HG1⟩, ⟨%g2', %fy2, %hg2, HG2⟩, ⟨%g3', %fy3, %hg3, HG3⟩, ⟨%gy, Hy⟩⟩
  dsimp only [bodyG]
  sl_exec
  sl_step
  isplitl [H2 H3 H4]
  · isplitl [H2]; · iexact H2
    isplitl [H3]; · iexact H3
    iexact H4
  isplitl [HW]; · iexists _; iexact HW
  isplitl [HF_src]; · iexact HF_src
  isplitl [HF HF_dst]
  · isplitl [HF]; · iexact HF
    iexists _; iexact HF_dst
  isplitl [HG_dst]
  · iexists _; isplitr [HG_dst]; · ipureintro; exact hg
    iexact HG_dst
  isplitl [HG1_dst]
  · iexists _; isplitr [HG1_dst]; · ipureintro; exact hg1
    iexact HG1_dst
  isplitl [HG2_dst]
  · iexists _; isplitr [HG2_dst]; · ipureintro; exact hg2
    iexact HG2_dst
  isplitl [HG3_dst]
  · iexists _; isplitr [HG3_dst]; · ipureintro; exact hg3
    iexact HG3_dst
  isplitl [Hy]
  · iexists _; isplitr [Hy]; rotate_left; · iexact Hy
    ipureintro; exact written c X w0 w1 w2 i _ _ _ (off10_nf i) _ _ _ _
  isplitl [HG HG_src]
  · isplitl [HG]; · iexact HG
    iexists _; iexact HG_src
  isplitl [HG1 HG1_src]
  · isplitl [HG1]; · iexact HG1
    iexists _; iexact HG1_src
  isplitl [HG2 HG2_src]
  · isplitl [HG2]; · iexact HG2
    iexists _; iexact HG2_src
  isplitl [HG3]; · iexact HG3
  iexists _; iexact HG3_src

end Step

end Cert.KernelIdeal.Hand
-- ==== Proof.IdealInv.lean ====
/-
  What the core holds between two grid points, as a function of the point number: which input blocks are home, which
  slots are being filled or copied out, which result blocks are written. Each point's step turns the holding before it
  into the holding after it.
-/
module

public import proofs.«01_k».proof.Proof.IdealStep

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk rangeSet)

variable {F : FTy → Type} [FloatOps F]
local notation "𝕄" => MT nD τ sig Unit (Elt F) ℕ (UU nD τ) ℕ

/-! ## Runs of blocks, by block number -/

section Runs
variable {M : Type} [URA M] (Φ : Fin 25 → sProp M)

theorem run_head {k n : ℕ} (h : k < 25) (hn : n = k + 1) :
    bigSep (rangeSet 25 k 25) Φ = iprop(Φ (bk 25 k) ∗ bigSep (rangeSet 25 n 25) Φ) := by
  rw [Ring.bigSep_rangeSet_head h h, show (⟨k, h⟩ : Fin 25) = bk 25 k from Fin.ext (Ring.bk_val h).symm, hn]

theorem run_last {k n : ℕ} (h : k < 25) (hn : n = k + 1) :
    bigSep (rangeSet 25 0 n) Φ = iprop(Φ (bk 25 k) ∗ bigSep (rangeSet 25 0 k) Φ) := by
  subst hn
  rw [Ring.bigSep_rangeSet_last (Nat.succ_pos k) h]
  exact congrArg (fun b => iprop(Φ b ∗ bigSep (rangeSet 25 0 k) Φ)) (Fin.ext (Ring.bk_val h).symm)

theorem run_none {k : ℕ} (h : 25 ≤ k) : rangeSet 25 k 25 = rangeSet 25 (k + 1) 25 := by
  rw [Ring.rangeSet_empty_high h, Ring.rangeSet_empty_high (by omega)]

end Runs

section Inv
variable (c : Dev nD) (X : XBuf F c) (out : Fin 25 → S4000x128.Idx → Elt F .f32)

/-! ## The input: its blocks and its slots -/

/-- The input blocks at home before point `p`: those computed, and those not yet started. -/
def XH (p : ℕ) : sProp 𝕄 :=
  iprop(bigSep (rangeSet 25 0 p) (xhome c X) ∗ bigSep (rangeSet 25 (if p = 0 then 0 else p + 2) 25) (xhome c X))
/-- The input blocks at home while point `p` runs, apart from those the point itself moves. -/
def XHr (p : ℕ) : sProp 𝕄 := iprop(bigSep (rangeSet 25 0 p) (xhome c X) ∗ bigSep (rangeSet 25 (p + 3) 25) (xhome c X))

theorem XH_first : XH c X 0 ⊢ iprop(xhome c X (bk 25 0) ∗ xhome c X (bk 25 1) ∗ xhome c X (bk 25 2) ∗ XHr c X 0) := by
  unfold XH XHr
  rw [if_pos rfl, run_head (k := 0) (n := 1) _ (by omega) rfl, run_head (k := 1) (n := 2) _ (by omega) rfl, run_head (k := 2) (n := 0 + 3) _ (by omega) rfl]
  iintro ⟨H, H0, H1, H2, H3⟩
  isplitl [H0]; · iexact H0
  isplitl [H1]; · iexact H1
  isplitl [H2]; · iexact H2
  isplitl [H]; · iexact H
  iexact H3

theorem XH_take (p : ℕ) (h0 : p ≠ 0) (h : p + 2 < 25) : XH c X p ⊢ iprop(xhome c X (bk 25 (p + 2)) ∗ XHr c X p) := by
  unfold XH XHr
  rw [if_neg h0, run_head (k := p + 2) (n := p + 3) _ h rfl]
  iintro ⟨H, H0, H1⟩
  isplitl [H0]; · iexact H0
  isplitl [H]; · iexact H
  iexact H1

theorem XH_none (p : ℕ) (h : 25 ≤ p + 2) (hp : p ≠ 0) : XH c X p ⊢ XHr c X p := by
  unfold XH XHr
  rw [if_neg hp, run_none h]

theorem XH_put (p : ℕ) (h : p < 25) : iprop(xhome c X (bk 25 p) ∗ XHr c X p) ⊢ XH c X (p + 1) := by
  unfold XH XHr
  rw [if_neg (Nat.succ_ne_zero p), run_last (k := p) (n := p + 1) _ h rfl]
  iintro ⟨H0, H1, H2⟩
  isplitl [H0 H1]
  · isplitl [H0]; · iexact H0
    iexact H1
  iexact H2

/-- Input slot `k % 4` before point `p`, for `k` from `p` to `p + 3`: being filled with block `k` if the transfer is out. -/
def xrole (p k : ℕ) : sProp 𝕄 :=
  if 1 ≤ p ∧ k < p + 2 ∧ k < 25 then xfly c X (sl 4 k) (bk 25 k) else xfree (F := F) c (sl 4 k)

theorem xrole_fly {p k : ℕ} (h : 1 ≤ p ∧ k < p + 2 ∧ k < 25) : xrole c X p k = xfly c X (sl 4 k) (bk 25 k) := if_pos h
theorem xrole_free {p k : ℕ} (h : ¬ (1 ≤ p ∧ k < p + 2 ∧ k < 25)) : xrole c X p k = xfree (F := F) c (sl 4 k) := if_neg h
theorem xrole_keep {p k : ℕ} (h : (1 ≤ p ∧ k < p + 2) ∨ ¬ (k < p + 3 ∧ k < 25)) : xrole c X (p + 1) k = xrole c X p k := by
  unfold xrole
  by_cases h' : 1 ≤ p ∧ k < p + 2 ∧ k < 25
  · rw [if_pos h', if_pos (by omega)]
  · rw [if_neg h', if_neg (by omega)]
/-- After point `p`, the slot it computed from is free. -/
theorem xrole_last (p : ℕ) : xrole c X (p + 1) (p + 4) = xfree (F := F) c (sl 4 p) := by
  rw [xrole_free c X (by omega), Ring.sl_add]

/-- The four input slots. -/
def XS (p : ℕ) : sProp 𝕄 := iprop(xrole c X p p ∗ xrole c X p (p + 1) ∗ xrole c X p (p + 2) ∗ xrole c X p (p + 3))

/-- The two input slots that a point starting a transfer does not use. -/
def XSr (p : ℕ) : sProp 𝕄 := iprop(xrole c X p (p + 1) ∗ xrole c X p (p + 3))

theorem XS_open (p : ℕ) (h : 1 ≤ p) (hq : p + 2 < 25) : XS c X p ⊢ iprop(xfly c X (sl 4 p) (bk 25 p) ∗ xfree (F := F) c (sl 4 (p + 2)) ∗ XSr c X p) := by
  unfold XS XSr
  rw [xrole_fly c X (p := p) (k := p) (by omega), xrole_free c X (p := p) (k := p + 2) (by omega)]
  iintro ⟨H0, H1, H2, H3⟩
  isplitl [H0]; · iexact H0
  isplitl [H2]; · iexact H2
  isplitl [H1]; · iexact H1
  iexact H3
theorem XS_close (p : ℕ) (h : 1 ≤ p) (hq : p + 2 < 25) : iprop(xfly c X (sl 4 (p + 2)) (bk 25 (p + 2)) ∗ xfree (F := F) c (sl 4 p) ∗ XSr c X p) ⊢ XS c X (p + 1) := by
  unfold XS XSr
  rw [xrole_keep c X (p := p) (k := p + 1) (by omega), xrole_fly c X (p := p + 1) (k := p + 1 + 1) (by omega),
    xrole_keep c X (p := p) (k := p + 1 + 2) (by omega), xrole_last c X p]
  iintro ⟨HF, H0, H1, H3⟩
  isplitl [H1]; · iexact H1
  isplitl [HF]; · iexact HF
  isplitl [H3]; · iexact H3
  iexact H0

/-- The three input slots that a point starting no transfer does not use. -/
def XSl (p : ℕ) : sProp 𝕄 := iprop(xrole c X p (p + 1) ∗ xrole c X p (p + 2) ∗ xrole c X p (p + 3))

theorem XSl_open (p : ℕ) (h : 1 ≤ p) (hp : p < 25) : XS c X p ⊢ iprop(xfly c X (sl 4 p) (bk 25 p) ∗ XSl c X p) := by
  unfold XS XSl; rw [xrole_fly c X (p := p) (k := p) (by omega)]
theorem XSl_close (p : ℕ) (h : 25 ≤ p + 2) : iprop(xfree (F := F) c (sl 4 p) ∗ XSl c X p) ⊢ XS c X (p + 1) := by
  unfold XS XSl
  rw [xrole_keep c X (p := p) (k := p + 1) (by omega), xrole_keep c X (p := p) (k := p + 1 + 1) (by omega),
    xrole_keep c X (p := p) (k := p + 1 + 2) (by omega), xrole_last c X p]
  iintro ⟨H0, H1, H2, H3⟩
  isplitl [H1]; · iexact H1
  isplitl [H2]; · iexact H2
  isplitl [H3]; · iexact H3
  iexact H0

theorem XS_first : XS c X 0 ⊢ iprop(xfree (F := F) c (sl 4 0) ∗ xfree (F := F) c (sl 4 1) ∗ xfree (F := F) c (sl 4 2) ∗ xfree (F := F) c (sl 4 3)) := by
  unfold XS
  rw [xrole_free c X (by omega), xrole_free c X (by omega), xrole_free c X (by omega), xrole_free c X (by omega)]
theorem XS_second : iprop(xfly c X (sl 4 1) (bk 25 1) ∗ xfly c X (sl 4 2) (bk 25 2) ∗ xfree (F := F) c (sl 4 0) ∗ xfree (F := F) c (sl 4 3)) ⊢ XS c X (0 + 1) := by
  unfold XS
  rw [xrole_fly c X (k := 0 + 1) (by omega), xrole_fly c X (k := 0 + 1 + 1) (by omega), xrole_free c X (k := 0 + 1 + 2) (by omega), xrole_last c X 0]
  iintro ⟨H1, H2, H0, H3⟩
  isplitl [H1]; · iexact H1
  isplitl [H2]; · iexact H2
  isplitl [H3]; · iexact H3
  iexact H0

/-! ## The result: its blocks and the output slots -/

/-- The result blocks before point `p`: the first ones written, those from `p` on not. -/
def YD (p : ℕ) : sProp 𝕄 :=
  iprop(bigSep (rangeSet 25 0 (if p = 25 then 25 else p - 4)) (ydone c out) ∗ bigSep (rangeSet 25 p 25) (ytodo (F := F) c))
/-- The result blocks while point `p` runs, apart from those the point itself moves. -/
def YDr (p : ℕ) : sProp 𝕄 := iprop(bigSep (rangeSet 25 0 (p - 4)) (ydone c out) ∗ bigSep (rangeSet 25 (p + 1) 25) (ytodo (F := F) c))

theorem YD_take (p : ℕ) (h : p < 25) : YD c out p ⊢ iprop(ytodo (F := F) c (bk 25 p) ∗ YDr c out p) := by
  unfold YD YDr
  rw [if_neg (by omega), run_head (k := p) (n := p + 1) _ h rfl]
  iintro ⟨H, H0, H1⟩
  isplitl [H0]; · iexact H0
  isplitl [H]; · iexact H
  iexact H1

theorem YD_none (p : ℕ) (h : p < 4) : YDr c out p ⊢ YD c out (p + 1) := by
  unfold YD YDr
  rw [if_neg (by omega), show p - 4 = 0 by omega, show p + 1 - 4 = 0 by omega]

theorem YD_put (p : ℕ) (h : 4 ≤ p) (h' : p < 24) : iprop(ydone c out (bk 25 (p - 4)) ∗ YDr c out p) ⊢ YD c out (p + 1) := by
  unfold YD YDr
  rw [if_neg (by omega), run_last (k := p - 4) (n := p + 1 - 4) _ (by omega) (by omega)]
  iintro ⟨H0, H1, H2⟩
  isplitl [H0 H1]
  · isplitl [H0]; · iexact H0
    iexact H1
  iexact H2

theorem YD_last :
    iprop(ydone c out (bk 25 (24 - 4)) ∗ ydone c out (bk 25 (24 - 3)) ∗ ydone c out (bk 25 (24 - 2)) ∗ ydone c out (bk 25 (24 - 1)) ∗ ydone c out (bk 25 24) ∗ YDr c out 24)
      ⊢ YD c out (24 + 1) := by
  unfold YD YDr
  rw [if_pos rfl, run_last (k := 24) (n := 25) _ (by omega) rfl, run_last (k := 24 - 1) (n := 24) _ (by omega) rfl, run_last (k := 24 - 2) (n := 24 - 1) _ (by omega) rfl,
    run_last (k := 24 - 3) (n := 24 - 2) _ (by omega) rfl, run_last (k := 24 - 4) (n := 24 - 3) _ (by omega) rfl]
  iintro ⟨H0, H1, H2, H3, H4, HD, HT⟩
  isplitr [HT]
  · isplitl [H4]; · iexact H4
    isplitl [H3]; · iexact H3
    isplitl [H2]; · iexact H2
    isplitl [H1]; · iexact H1
    isplitl [H0]; · iexact H0
    iexact HD
  iexact HT

/-- Output slot `k % 4` before point `p`, for `k` from `p` to `p + 3`: being copied out to block `k - 4`, or free. -/
def yrole (p k : ℕ) : sProp 𝕄 :=
  if 4 ≤ k ∧ p < 25 then yfly c out (sl 4 k) (bk 25 (k - 4)) else yfree (F := F) c (sl 4 k)

theorem yrole_fly {p k : ℕ} (h : 4 ≤ k ∧ p < 25) : yrole c out p k = yfly c out (sl 4 k) (bk 25 (k - 4)) := if_pos h
theorem yrole_free {p k : ℕ} (h : ¬ (4 ≤ k ∧ p < 25)) : yrole c out p k = yfree (F := F) c (sl 4 k) := if_neg h
theorem yrole_keep {p k : ℕ} (h : p + 1 < 25) : yrole c out (p + 1) k = yrole c out p k := by
  unfold yrole
  by_cases h' : 4 ≤ k
  · rw [if_pos ⟨h', h⟩, if_pos ⟨h', by omega⟩]
  · rw [if_neg (by omega), if_neg (by omega)]
/-- After point `p` the slot it filled is being copied out to its block. -/
theorem yrole_last {p : ℕ} (h : p + 1 < 25) : yrole c out (p + 1) (p + 4) = yfly c out (sl 4 p) (bk 25 p) := by
  rw [yrole_fly c out ⟨by omega, h⟩, Ring.sl_add, Nat.add_sub_cancel]

/-- The four output slots. -/
def YS (p : ℕ) : sProp 𝕄 := iprop(yrole c out p p ∗ yrole c out p (p + 1) ∗ yrole c out p (p + 2) ∗ yrole c out p (p + 3))
/-- The three output slots that point `p` does not use. -/
def YSr (p : ℕ) : sProp 𝕄 := iprop(yrole c out p (p + 1) ∗ yrole c out p (p + 2) ∗ yrole c out p (p + 3))

theorem YS_open (p : ℕ) (h : 4 ≤ p ∧ p < 25) : YS c out p ⊢ iprop(yfly c out (sl 4 p) (bk 25 (p - 4)) ∗ YSr c out p) := by
  unfold YS YSr; rw [yrole_fly c out h]
theorem YS_open_free (p : ℕ) (h : p < 4) : YS c out p ⊢ iprop(yfree (F := F) c (sl 4 p) ∗ YSr c out p) := by
  unfold YS YSr; rw [yrole_free c out (k := p) (by omega)]
theorem YS_close (p : ℕ) (h : p + 1 < 25) : iprop(yfly c out (sl 4 p) (bk 25 p) ∗ YSr c out p) ⊢ YS c out (p + 1) := by
  unfold YS YSr
  rw [yrole_keep c out h, yrole_keep c out h, yrole_keep c out h, yrole_last c out h]
  iintro ⟨H, H1, H2, H3⟩
  isplitl [H1]; · iexact H1
  isplitl [H2]; · iexact H2
  isplitl [H3]; · iexact H3
  iexact H

theorem YS_last_open : YS c out 24 ⊢ iprop(yfly c out (sl 4 24) (bk 25 (24 - 4)) ∗ yfly c out (sl 4 (24 + 1)) (bk 25 (24 - 3))
    ∗ yfly c out (sl 4 (24 + 2)) (bk 25 (24 - 2)) ∗ yfly c out (sl 4 (24 + 3)) (bk 25 (24 - 1))) := by
  unfold YS
  rw [yrole_fly c out (k := 24) (by omega), yrole_fly c out (k := 24 + 1) (by omega), yrole_fly c out (k := 24 + 2) (by omega), yrole_fly c out (k := 24 + 3) (by omega)]
theorem YS_last_close : iprop(yfree (F := F) c (sl 4 24) ∗ yfree (F := F) c (sl 4 (24 + 1)) ∗ yfree (F := F) c (sl 4 (24 + 2)) ∗ yfree (F := F) c (sl 4 (24 + 3))) ⊢ YS c out (24 + 1) := by
  unfold YS
  rw [yrole_free c out (k := 24 + 1) (by omega), yrole_free c out (k := 24 + 1 + 1) (by omega), yrole_free c out (k := 24 + 1 + 2) (by omega),
    yrole_free c out (k := 24 + 1 + 3) (by omega), show 24 + 1 + 3 = 24 + 4 from rfl, Ring.sl_add]
  iintro ⟨H0, H1, H2, H3⟩
  isplitl [H1]; · iexact H1
  isplitl [H2]; · iexact H2
  isplitl [H3]; · iexact H3
  iexact H0

/-! ## The whole holding, and how each kind of point changes it -/

/-- What the core holds before point `p`. -/
def Inv (p : ℕ) : sProp 𝕄 := iprop(XH c X p ∗ XS c X p ∗ YD c out p ∗ YS c out p)

/-- A middle point. -/
theorem adv_mid (p : ℕ) (hp : 4 ≤ p) (hq : p + 2 < 25) :
    Inv c X out p ⊢ iprop((xhome c X (bk 25 (p + 2)) ∗ xfree (F := F) c (sl 4 (p + 2)) ∗ xfly c X (sl 4 p) (bk 25 p) ∗ yfly c out (sl 4 p) (bk 25 (p - 4)) ∗ ytodo (F := F) c (bk 25 p))
      ∗ ((xfly c X (sl 4 (p + 2)) (bk 25 (p + 2)) ∗ xhome c X (bk 25 p) ∗ xfree (F := F) c (sl 4 p) ∗ ydone c out (bk 25 (p - 4)) ∗ yfly c out (sl 4 p) (bk 25 p)) -∗ Inv c X out (p + 1))) := by
  unfold Inv
  iintro ⟨HX, HS, HD, HY⟩
  ihave HX := (XH_take c X p (by omega) hq) $$ HX
  ihave HS := (XS_open c X p (by omega) hq) $$ HS
  ihave HD := (YD_take c out p (by omega)) $$ HD
  ihave HY := (YS_open c out p (by omega)) $$ HY
  icases HX with ⟨HX2, HXr⟩
  icases HS with ⟨HS0, HS2, HSr⟩
  icases HD with ⟨HD0, HDr⟩
  icases HY with ⟨HY0, HYr⟩
  isplitl [HX2 HS2 HS0 HY0 HD0]
  · isplitl [HX2]; · iexact HX2
    isplitl [HS2]; · iexact HS2
    isplitl [HS0]; · iexact HS0
    isplitl [HY0]; · iexact HY0
    iexact HD0
  iintro ⟨HF, HX, HS, HD, HY⟩
  isplitl [HX HXr]
  · iapply (XH_put c X p (by omega))
    isplitl [HX]; · iexact HX
    iexact HXr
  isplitl [HF HS HSr]
  · iapply (XS_close c X p (by omega) hq)
    isplitl [HF]; · iexact HF
    isplitl [HS]; · iexact HS
    iexact HSr
  isplitl [HD HDr]
  · iapply (YD_put c out p hp (by omega))
    isplitl [HD]; · iexact HD
    iexact HDr
  iapply (YS_close c out p (by omega))
  isplitl [HY]; · iexact HY
  iexact HYr

/-- A point from 1 to 3. -/
theorem adv_early (p : ℕ) (h0 : p ≠ 0) (hp : p < 4) :
    Inv c X out p ⊢ iprop((xhome c X (bk 25 (p + 2)) ∗ xfree (F := F) c (sl 4 (p + 2)) ∗ xfly c X (sl 4 p) (bk 25 p) ∗ yfree (F := F) c (sl 4 p) ∗ ytodo (F := F) c (bk 25 p))
      ∗ ((xfly c X (sl 4 (p + 2)) (bk 25 (p + 2)) ∗ xhome c X (bk 25 p) ∗ xfree (F := F) c (sl 4 p) ∗ yfly c out (sl 4 p) (bk 25 p)) -∗ Inv c X out (p + 1))) := by
  unfold Inv
  iintro ⟨HX, HS, HD, HY⟩
  ihave HX := (XH_take c X p h0 (by omega)) $$ HX
  ihave HS := (XS_open c X p (by omega) (by omega)) $$ HS
  ihave HD := (YD_take c out p (by omega)) $$ HD
  ihave HY := (YS_open_free c out p hp) $$ HY
  icases HX with ⟨HX2, HXr⟩
  icases HS with ⟨HS0, HS2, HSr⟩
  icases HD with ⟨HD0, HDr⟩
  icases HY with ⟨HY0, HYr⟩
  isplitl [HX2 HS2 HS0 HY0 HD0]
  · isplitl [HX2]; · iexact HX2
    isplitl [HS2]; · iexact HS2
    isplitl [HS0]; · iexact HS0
    isplitl [HY0]; · iexact HY0
    iexact HD0
  iintro ⟨HF, HX, HS, HY⟩
  isplitl [HX HXr]
  · iapply (XH_put c X p (by omega))
    isplitl [HX]; · iexact HX
    iexact HXr
  isplitl [HF HS HSr]
  · iapply (XS_close c X p (by omega) (by omega))
    isplitl [HF]; · iexact HF
    isplitl [HS]; · iexact HS
    iexact HSr
  isplitl [HDr]
  · iapply (YD_none c out p hp)
    iexact HDr
  iapply (YS_close c out p (by omega))
  isplitl [HY]; · iexact HY
  iexact HYr

/-- The first point. -/
theorem adv_first :
    Inv c X out 0 ⊢ iprop((xhome c X (bk 25 0) ∗ xhome c X (bk 25 1) ∗ xhome c X (bk 25 2) ∗ xfree (F := F) c (sl 4 0) ∗ xfree (F := F) c (sl 4 1) ∗ xfree (F := F) c (sl 4 2) ∗ yfree (F := F) c (sl 4 0) ∗ ytodo (F := F) c (bk 25 0))
      ∗ ((xfly c X (sl 4 1) (bk 25 1) ∗ xfly c X (sl 4 2) (bk 25 2) ∗ xhome c X (bk 25 0) ∗ xfree (F := F) c (sl 4 0) ∗ yfly c out (sl 4 0) (bk 25 0)) -∗ Inv c X out (0 + 1))) := by
  unfold Inv
  iintro ⟨HX, HS, HD, HY⟩
  ihave HX := (XH_first c X) $$ HX
  ihave HS := (XS_first c X) $$ HS
  ihave HD := (YD_take c out 0 (by omega)) $$ HD
  ihave HY := (YS_open_free c out 0 (by omega)) $$ HY
  icases HX with ⟨HX0, HX1, HX2, HXr⟩
  icases HS with ⟨HS0, HS1, HS2, HS3⟩
  icases HD with ⟨HD0, HDr⟩
  icases HY with ⟨HY0, HYr⟩
  isplitl [HX0 HX1 HX2 HS0 HS1 HS2 HY0 HD0]
  · isplitl [HX0]; · iexact HX0
    isplitl [HX1]; · iexact HX1
    isplitl [HX2]; · iexact HX2
    isplitl [HS0]; · iexact HS0
    isplitl [HS1]; · iexact HS1
    isplitl [HS2]; · iexact HS2
    isplitl [HY0]; · iexact HY0
    iexact HD0
  iintro ⟨HF1, HF2, HX, HS, HY⟩
  isplitl [HX HXr]
  · iapply (XH_put c X 0 (by omega))
    isplitl [HX]; · iexact HX
    iexact HXr
  isplitl [HF1 HF2 HS HS3]
  · iapply (XS_second c X)
    isplitl [HF1]; · iexact HF1
    isplitl [HF2]; · iexact HF2
    isplitl [HS]; · iexact HS
    iexact HS3
  isplitl [HDr]
  · iapply (YD_none c out 0 (by omega))
    iexact HDr
  iapply (YS_close c out 0 (by omega))
  isplitl [HY]; · iexact HY
  iexact HYr

/-- Point 23. -/
theorem adv_late :
    Inv c X out 23 ⊢ iprop((xfly c X (sl 4 23) (bk 25 23) ∗ yfly c out (sl 4 23) (bk 25 (23 - 4)) ∗ ytodo (F := F) c (bk 25 23))
      ∗ ((xhome c X (bk 25 23) ∗ xfree (F := F) c (sl 4 23) ∗ ydone c out (bk 25 (23 - 4)) ∗ yfly c out (sl 4 23) (bk 25 23)) -∗ Inv c X out (23 + 1))) := by
  unfold Inv
  iintro ⟨HX, HS, HD, HY⟩
  ihave HX := (XH_none c X 23 (by omega) (by omega)) $$ HX
  ihave HS := (XSl_open c X 23 (by omega) (by omega)) $$ HS
  ihave HD := (YD_take c out 23 (by omega)) $$ HD
  ihave HY := (YS_open c out 23 (by omega)) $$ HY
  icases HS with ⟨HS0, HSr⟩
  icases HD with ⟨HD0, HDr⟩
  icases HY with ⟨HY0, HYr⟩
  isplitl [HS0 HY0 HD0]
  · isplitl [HS0]; · iexact HS0
    isplitl [HY0]; · iexact HY0
    iexact HD0
  iintro ⟨HXn, HS, HD, HY⟩
  isplitl [HXn HX]
  · iapply (XH_put c X 23 (by omega))
    isplitl [HXn]; · iexact HXn
    iexact HX
  isplitl [HS HSr]
  · iapply (XSl_close c X 23 (by omega))
    isplitl [HS]; · iexact HS
    iexact HSr
  isplitl [HD HDr]
  · iapply (YD_put c out 23 (by omega) (by omega))
    isplitl [HD]; · iexact HD
    iexact HDr
  iapply (YS_close c out 23 (by omega))
  isplitl [HY]; · iexact HY
  iexact HYr

/-- The last point. -/
theorem adv_last :
    Inv c X out 24 ⊢ iprop((xfly c X (sl 4 24) (bk 25 24) ∗ yfly c out (sl 4 24) (bk 25 (24 - 4)) ∗ yfly c out (sl 4 (24 + 1)) (bk 25 (24 - 3)) ∗ yfly c out (sl 4 (24 + 2)) (bk 25 (24 - 2)) ∗ yfly c out (sl 4 (24 + 3)) (bk 25 (24 - 1)) ∗ ytodo (F := F) c (bk 25 24))
      ∗ ((xhome c X (bk 25 24) ∗ xfree (F := F) c (sl 4 24) ∗ ydone c out (bk 25 (24 - 4)) ∗ ydone c out (bk 25 (24 - 3)) ∗ ydone c out (bk 25 (24 - 2)) ∗ ydone c out (bk 25 (24 - 1)) ∗ ydone c out (bk 25 24) ∗ yfree (F := F) c (sl 4 24) ∗ yfree (F := F) c (sl 4 (24 + 1)) ∗ yfree (F := F) c (sl 4 (24 + 2)) ∗ yfree (F := F) c (sl 4 (24 + 3))) -∗ Inv c X out (24 + 1))) := by
  unfold Inv
  iintro ⟨HX, HS, HD, HY⟩
  ihave HX := (XH_none c X 24 (by omega) (by omega)) $$ HX
  ihave HS := (XSl_open c X 24 (by omega) (by omega)) $$ HS
  ihave HD := (YD_take c out 24 (by omega)) $$ HD
  ihave HY := (YS_last_open c out) $$ HY
  icases HS with ⟨HS0, HSr⟩
  icases HD with ⟨HD0, HDr⟩
  icases HY with ⟨HY0, HY1, HY2, HY3⟩
  isplitl [HS0 HY0 HY1 HY2 HY3 HD0]
  · isplitl [HS0]; · iexact HS0
    isplitl [HY0]; · iexact HY0
    isplitl [HY1]; · iexact HY1
    isplitl [HY2]; · iexact HY2
    isplitl [HY3]; · iexact HY3
    iexact HD0
  iintro ⟨HXn, HS, HD0, HD1, HD2, HD3, HD4, HY0, HY1, HY2, HY3⟩
  isplitl [HXn HX]
  · iapply (XH_put c X 24 (by omega))
    isplitl [HXn]; · iexact HXn
    iexact HX
  isplitl [HS HSr]
  · iapply (XSl_close c X 24 (by omega))
    isplitl [HS]; · iexact HS
    iexact HSr
  isplitl [HD0 HD1 HD2 HD3 HD4 HDr]
  · iapply (YD_last c out)
    isplitl [HD0]; · iexact HD0
    isplitl [HD1]; · iexact HD1
    isplitl [HD2]; · iexact HD2
    isplitl [HD3]; · iexact HD3
    isplitl [HD4]; · iexact HD4
    iexact HDr
  iapply (YS_last_close c out)
  isplitl [HY0]; · iexact HY0
  isplitl [HY1]; · iexact HY1
  isplitl [HY2]; · iexact HY2
  iexact HY3

end Inv

section Steps
variable (c : Dev nD) (X : XBuf F c)
  (a2 : Memref sig .tc .vmem S128x128 .f32) (h2 : a2.IsWhole)
  (a3 : Memref sig .tc .vmem S128x128 .f32) (h3 : a3.IsWhole)
  (a4 : Memref sig .tc .vmem S128x128 .f32) (h4 : a4.IsWhole)
  (g2 : Buf (Elt F) (a2.view.loc (c : Thread nD τ))) (g3 : Buf (Elt F) (a3.view.loc (c : Thread nD τ))) (g4 : Buf (Elt F) (a4.view.loc (c : Thread nD τ)))
  (W : Waits sig Unit)
  {w0 w1 w2 : S128x128.Idx → Elt F .f32} (e2 : a2.view.readAt (Elt F) wrect g2 = w0)
  (e3 : a3.view.readAt (Elt F) wrect g3 = w1) (e4 : a4.view.readAt (Elt F) wrect g4 = w2)

/-- A run that uses the pieces `P` and leaves `P'` takes a holding that gives `P` and takes `P'` back to the next one. -/
theorem use_pieces {e : Prog (TpuEff nD τ sig (Elt F) Λ₀ .tc) PUnit} {A B A' P P' I I' : sProp 𝕄} {B' : sProp 𝕄}
    (h : iprop(A ∗ B ∗ P) ⊢ wp frame (wpE (defs₀ (F := F)) 𝒱₀ (c : Thread nD τ) none) Set.univ e (fun _ => iprop(A' ∗ B' ∗ P')))
    (hI : I ⊢ iprop(P ∗ (P' -∗ I'))) :
    iprop(A ∗ B ∗ I) ⊢ wp frame (wpE (defs₀ (F := F)) 𝒱₀ (c : Thread nD τ) none) Set.univ e (fun _ => iprop(A' ∗ B' ∗ I')) := by
  iintro ⟨HA, HB, HI⟩
  ihave HI := hI $$ HI
  icases HI with ⟨HP, Hk⟩
  iapply (wp_wand_r frame (wpE (defs₀ (F := F)) 𝒱₀ (c : Thread nD τ) none) Set.univ)
  isplitl [HA HB HP]
  · iapply h
    isplitl [HA]; · iexact HA
    isplitl [HB]; · iexact HB
    iexact HP
  iintro %_ ⟨HA, HB, HP⟩
  isplitl [HA]; · iexact HA
  isplitl [HB]; · iexact HB
  iapply Hk; iexact HP

include e2 e3 e4 in
/-- EVERY POINT: the body at point `i` turns the holding before it into the holding after it. -/
theorem step_all (i : grid0.Coords) (p : ℕ) (hi : (i 0).val = p) :
    iprop(wts c a2 a3 a4 g2 g3 g4 ∗ owes (c : Thread nD τ) 0 W ∗ Inv c X (yval c X w0 w1 w2) p)
    ⊢ wp frame (wpE (defs₀ (F := F)) 𝒱₀ (c : Thread nD τ) none) Set.univ (bodyG a2 h2 a3 h3 a4 h4 i)
      (fun _ => iprop(wts c a2 a3 a4 g2 g3 g4 ∗ (∃ W, owes (c : Thread nD τ) 0 W) ∗ Inv c X (yval c X w0 w1 w2) (p + 1))) := by
  have hlt : (i 0).val < 25 := (i 0).isLt
  by_cases h0 : p = 0
  · have S := step_first c X a2 h2 a3 h3 a4 h4 g2 g3 g4 W e2 e3 e4 i (hi.trans h0)
    rw [hi, h0] at S; rw [h0]
    exact use_pieces c S (adv_first c X _)
  by_cases h4' : p < 4
  · have S := step_early c X a2 h2 a3 h3 a4 h4 g2 g3 g4 W e2 e3 e4 i (by omega) (by omega)
    rw [hi] at S
    exact use_pieces c S (adv_early c X _ p h0 h4')
  by_cases hq : p + 2 < 25
  · have S := step_mid c X a2 h2 a3 h3 a4 h4 g2 g3 g4 W e2 e3 e4 i (by omega) (by omega)
    rw [hi] at S
    exact use_pieces c S (adv_mid c X _ p (by omega) hq)
  by_cases h23 : p = 23
  · have S := step_late c X a2 h2 a3 h3 a4 h4 g2 g3 g4 W e2 e3 e4 i (hi.trans h23)
    rw [hi, h23] at S; rw [h23]
    exact use_pieces c S (adv_late c X _)
  · have h24 : p = 24 := by omega
    have S := step_last c X a2 h2 a3 h3 a4 h4 g2 g3 g4 W e2 e3 e4 i (hi.trans h24)
    rw [hi, h24] at S; rw [h24]
    exact use_pieces c S (adv_last c X _)

end Steps

end Cert.KernelIdeal.Hand
-- ==== Proof.IdealRun.lean ====
/-
  The launch: the invariant handed in at the first point and taken back after the last, and the run of @main from any
  memory — it ends, the arguments unchanged, the result at the block values, every counter at zero.
-/
module

public import proofs.«01_k».proof.Proof.IdealInv
public import proofs.«01_k».proof.Proof.Gen.KernelIdeal.Frame
public import Idealize.ShloMosaic.Lib.ViewIndex
public import Idealize.ShloMosaic.Lib.Pipeline.KitQuiescent

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk rangeSet)
open Idealize.ShloMosaic.Pipeline (Dat Cfg Window BodyObligation cellOf)

variable {F : FTy → Type} [FloatOps F]
local notation "𝕄" => MT nD τ sig Unit (Elt F) ℕ (UU nD τ) ℕ
abbrev EP : Emb (UR sig nD τ) (MT nD τ sig Unit (Elt F) ℕ (UU nD τ) ℕ) := embL

theorem of_eq {P Q : sProp 𝕄} (e : P = Q) : P ⊢ Q := e ▸ .rfl

/-! ## The arrays and the rings as their blocks and slots -/

abbrev blkSet (b : Fin 25) : Finset S100000x128.Idx := (Rect.unit (s := S100000x128) (blkOff b) S4000x128.size (blkOff_inb b)).set
abbrev slotSet (s : Fin 4) : Finset S4x4000x128.Idx := (Rect.unit (s := S4x4000x128) (slotOff s) S1x4000x128.size (slotOff_inb s)).set

theorem blkSet_disjoint (b b' : Fin 25) (h : b ≠ b') : Disjoint (blkSet b) (blkSet b') :=
  Ring.lead_disjoint (s := S100000x128) 0 4000 blkOff S4000x128.size blkOff_inb (fun _ => rfl) rfl b b' h
theorem blkSet_cover : Finset.univ.biUnion blkSet = Finset.univ :=
  Ring.lead_cover (s := S100000x128) 0 4000 blkOff S4000x128.size blkOff_inb (fun _ => rfl) (by decide) rfl (by decide) rfl
theorem slotSet_disjoint (s s' : Fin 4) (h : s ≠ s') : Disjoint (slotSet s) (slotSet s') :=
  Ring.lead_disjoint (s := S4x4000x128) 0 1 slotOff S1x4000x128.size slotOff_inb (fun s => (Nat.one_mul s.val).symm) rfl s s' h
theorem slotSet_cover : Finset.univ.biUnion slotSet = Finset.univ :=
  Ring.lead_cover (s := S4x4000x128) 0 1 slotOff S1x4000x128.size slotOff_inb (fun s => (Nat.one_mul s.val).symm) (by decide) rfl (by decide) rfl

theorem xblk_set (b : Fin 25) : (xblk b).view.set = blkSet b := View.set_slice_whole _ _
theorem yblk_set (b : Fin 25) : (yblk b).view.set = blkSet b := View.set_slice_whole _ _
theorem xslot_set (s : Fin 4) : (xslot s).view.set = slotSet s := (View.set_reshape _ _).trans (View.set_slice_whole _ _)
theorem yslot_set (s : Fin 4) : (yslot s).view.set = slotSet s := (View.set_reshape _ _).trans (View.set_slice_whole _ _)

theorem each {I : Type} {S : Finset I} {Φ Ψ : I → sProp 𝕄} (h : ∀ b, Φ b ⊢ Ψ b) : bigSep S Φ ⊢ bigSep S Ψ :=
  BI.bigSep_mono fun b _ => h b
theorem four {M : Type} [URA M] (Φ : Fin 4 → sProp M) : bigSep Finset.univ Φ = iprop(Φ 0 ∗ Φ 1 ∗ Φ 2 ∗ Φ 3) :=
  bigSep_univ_eq_bigSepL [(0 : Fin 4), 1, 2, 3] (by decide) (by decide) Φ

section Ends
variable (c : Dev nD) (X : XBuf F c) (out : Fin 25 → S4000x128.Idx → Elt F .f32)

/-- The input whole is its blocks at home. -/
theorem x_eq : (((c : Thread nD τ).loc main_arg1) ↦{fullShare} X : sProp 𝕄) = bigSep Finset.univ (xhome c X) := by
  rw [Ring.pointsTo_blocks (ℓ := (c : Thread nD τ).loc main_arg1) blkSet blkSet_disjoint blkSet_cover]
  exact bigSep_congr fun b _ => by rw [← xblk_set]; rfl
theorem y_eq (G : YBuf F c) : (((c : Thread nD τ).loc main_v0) ↦{fullShare} G : sProp 𝕄) = bigSep Finset.univ (fun b => yheld c b G) := by
  rw [Ring.pointsTo_blocks (ℓ := (c : Thread nD τ).loc main_v0) blkSet blkSet_disjoint blkSet_cover]
  exact bigSep_congr fun b _ => by rw [← yblk_set]; rfl

/-- An input slot is its rows of the ring. -/
theorem xslot_eq (s : Fin 4) (f) : xslotP c s f = (((c : Thread nD τ).loc cc0_scratch0) ↦[slotSet s]{fullShare} f : sProp 𝕄) :=
  congrArg (fun S => (_ ↦[S]{fullShare} f : sProp 𝕄)) (xslot_set s)
theorem yslot_eq (s : Fin 4) (f) : yslotP c s f = (((c : Thread nD τ).loc cc0_scratch1) ↦[slotSet s]{fullShare} f : sProp 𝕄) :=
  congrArg (fun S => (_ ↦[S]{fullShare} f : sProp 𝕄)) (yslot_set s)

theorem xring_split : iprop(∃ f : Buf (Elt F) ((c : Thread nD τ).loc cc0_scratch0), ((c : Thread nD τ).loc cc0_scratch0) ↦{fullShare} f)
    ⊢ (bigSep Finset.univ (fun s => iprop(∃ f, xslotP c s f)) : sProp 𝕄) := by
  iintro ⟨%f, H⟩
  ihave H2 := (of_eq (Ring.pointsTo_blocks (ℓ := (c : Thread nD τ).loc cc0_scratch0) slotSet slotSet_disjoint slotSet_cover f)) $$ H
  iapply (each (Φ := fun s => (((c : Thread nD τ).loc cc0_scratch0) ↦[slotSet s]{fullShare} f : sProp 𝕄))
    (fun s => by rw [← xslot_eq c s f]; iintro H; iexists f; iexact H))
  iexact H2
theorem yring_split : iprop(∃ f : Buf (Elt F) ((c : Thread nD τ).loc cc0_scratch1), ((c : Thread nD τ).loc cc0_scratch1) ↦{fullShare} f)
    ⊢ (bigSep Finset.univ (fun s => iprop(∃ f, yslotP c s f)) : sProp 𝕄) := by
  iintro ⟨%f, H⟩
  ihave H2 := (of_eq (Ring.pointsTo_blocks (ℓ := (c : Thread nD τ).loc cc0_scratch1) slotSet slotSet_disjoint slotSet_cover f)) $$ H
  iapply (each (Φ := fun s => (((c : Thread nD τ).loc cc0_scratch1) ↦[slotSet s]{fullShare} f : sProp 𝕄))
    (fun s => by rw [← yslot_eq c s f]; iintro H; iexists f; iexact H))
  iexact H2
theorem xring_join : (bigSep Finset.univ (fun s => iprop(∃ f, xslotP c s f)) : sProp 𝕄)
    ⊢ iprop(∃ f : Buf (Elt F) ((c : Thread nD τ).loc cc0_scratch0), ((c : Thread nD τ).loc cc0_scratch0) ↦{fullShare} f) := by
  refine (each (fun s => ?_)).trans (Ring.pointsTo_blocks_join_exists (ℓ := (c : Thread nD τ).loc cc0_scratch0) slotSet slotSet_disjoint slotSet_cover
    (Classical.arbitrary _))
  iintro ⟨%f, H⟩; iexists f; iapply (of_eq (xslot_eq c s f)); iexact H
theorem yring_join : (bigSep Finset.univ (fun s => iprop(∃ f, yslotP c s f)) : sProp 𝕄)
    ⊢ iprop(∃ f : Buf (Elt F) ((c : Thread nD τ).loc cc0_scratch1), ((c : Thread nD τ).loc cc0_scratch1) ↦{fullShare} f) := by
  refine (each (fun s => ?_)).trans (Ring.pointsTo_blocks_join_exists (ℓ := (c : Thread nD τ).loc cc0_scratch1) slotSet slotSet_disjoint slotSet_cover
    (Classical.arbitrary _))
  iintro ⟨%f, H⟩; iexists f; iapply (of_eq (yslot_eq c s f)); iexact H

/-! ## The result put together from its blocks -/

/-- The block of a row, and the row within the block. -/
def rowB (k : S100000x128.Idx) : Fin 25 := ⟨(k 0).val / 4000, Nat.div_lt_of_lt_mul (k 0).isLt⟩
def rowI (k : S100000x128.Idx) : S4000x128.Idx
  | ⟨0, _⟩ => ⟨(k 0).val % 4000, Nat.mod_lt _ (by decide)⟩
  | ⟨1, _⟩ => ⟨(k 1).val, (k 1).isLt⟩
/-- The array whose block `b` is `out b`. -/
def gout : YBuf F c := fun k => out (rowB k) (rowI k)

theorem read_gout (b : Fin 25) : (yblk b).view.read (Elt F) (gout c out) = out b := by
  funext j
  show out (rowB ((Rect.unit (s := S100000x128) (blkOff b) S4000x128.size (blkOff_inb b)).emb j)) (rowI ((Rect.unit (s := S100000x128) (blkOff b) S4000x128.size (blkOff_inb b)).emb j)) = out b j
  have hj : (j 0).val < 4000 := (j 0).isLt
  have e0 : ((Rect.unit (s := S100000x128) (blkOff b) S4000x128.size (blkOff_inb b)).emb j 0).val = 4000 * b.val + (j 0).val := by simp [Rect.emb, Rect.unit]
  have e1 : ((Rect.unit (s := S100000x128) (blkOff b) S4000x128.size (blkOff_inb b)).emb j 1).val = (j 1).val := by simp [Rect.emb, Rect.unit]
  rw [show rowB ((Rect.unit (s := S100000x128) (blkOff b) S4000x128.size (blkOff_inb b)).emb j) = b from Fin.ext (by show _ / 4000 = b.val; omega)]
  refine congrArg (out b) (funext fun a => Fin.ext ?_)
  match a with
  | ⟨0, _⟩ => show _ % 4000 = (j 0).val; omega
  | ⟨1, _⟩ => exact e1

/-- A written block holds the put-together array. -/
theorem ydone_gout (b : Fin 25) : ydone c out b ⊢ yheld c b (gout c out) := by
  unfold ydone
  iintro ⟨%g, %hg, H⟩
  iapply (of_eq (pointsTo_congr (fun i hi => by
    obtain ⟨x, -, rfl⟩ := Finset.mem_map.mp hi
    exact View.eq_of_read_eq (congrFun (hg.trans (read_gout c out b).symm) x))))
  iexact H

/-! ## The first and the last holding -/

theorem inv_start :
    iprop((((c : Thread nD τ).loc main_arg1) ↦{fullShare} X) ∗ (∃ G : YBuf F c, ((c : Thread nD τ).loc main_v0) ↦{fullShare} G)
      ∗ (bigSep Finset.univ (xcell (F := F) c) ∗ bigSep Finset.univ (ycell (F := F) c))
      ∗ bigSep Finset.univ (fun s => iprop(∃ f, xslotP (F := F) c s f)) ∗ bigSep Finset.univ (fun s => iprop(∃ f, yslotP (F := F) c s f)))
    ⊢ Inv c X out 0 := by
  rw [x_eq, four, four, four, four]
  unfold Inv XH XS YD YS
  rw [if_pos rfl, xrole_free c X (by omega), xrole_free c X (by omega), xrole_free c X (by omega), xrole_free c X (by omega),
    yrole_free c out (by omega), yrole_free c out (by omega), yrole_free c out (by omega), yrole_free c out (by omega),
    Ring.bigSep_rangeSet_empty le_rfl, if_neg (by decide), Ring.bigSep_rangeSet_empty (hi := 0 - 4) (by decide), Ring.rangeSet_univ]
  unfold xfree yfree
  iintro ⟨HX, ⟨%G, HY⟩, ⟨⟨Hx0, Hx1, Hx2, Hx3⟩, Hy0, Hy1, Hy2, Hy3⟩, ⟨Hs0, Hs1, Hs2, Hs3⟩, Ht0, Ht1, Ht2, Ht3⟩
  isplitl [HX]
  · isplitr; · iempintro
    iexact HX
  isplitl [Hx0 Hx1 Hx2 Hx3 Hs0 Hs1 Hs2 Hs3]
  · isplitl [Hx0 Hs0]
    · isplitl [Hx0]; · iexact Hx0
      iexact Hs0
    isplitl [Hx1 Hs1]
    · isplitl [Hx1]; · iexact Hx1
      iexact Hs1
    isplitl [Hx2 Hs2]
    · isplitl [Hx2]; · iexact Hx2
      iexact Hs2
    isplitl [Hx3]; · iexact Hx3
    iexact Hs3
  isplitl [HY]
  · isplitr; · iempintro
    ihave HY := (of_eq (y_eq c G)) $$ HY
    iapply (each (Φ := fun b => yheld c b G) (fun b => by unfold ytodo; iintro H; iexists G; iexact H))
    iexact HY
  isplitl [Hy0 Ht0]
  · isplitl [Hy0]; · iexact Hy0
    iexact Ht0
  isplitl [Hy1 Ht1]
  · isplitl [Hy1]; · iexact Hy1
    iexact Ht1
  isplitl [Hy2 Ht2]
  · isplitl [Hy2]; · iexact Hy2
    iexact Ht2
  isplitl [Hy3]; · iexact Hy3
  iexact Ht3

theorem inv_end : Inv c X out 25 ⊢
    iprop((((c : Thread nD τ).loc main_arg1) ↦{fullShare} X) ∗ (((c : Thread nD τ).loc main_v0) ↦{fullShare} gout c out)
      ∗ (bigSep Finset.univ (xcell (F := F) c) ∗ bigSep Finset.univ (ycell (F := F) c))
      ∗ bigSep Finset.univ (fun s => iprop(∃ f, xslotP (F := F) c s f)) ∗ bigSep Finset.univ (fun s => iprop(∃ f, yslotP (F := F) c s f))) := by
  rw [x_eq, y_eq, four, four, four, four]
  unfold Inv XH XS YD YS
  rw [if_neg (by decide), if_pos rfl, xrole_free c X (by omega), xrole_free c X (by omega), xrole_free c X (by omega), xrole_free c X (by omega),
    yrole_free c out (by omega), yrole_free c out (by omega), yrole_free c out (by omega), yrole_free c out (by omega),
    Ring.bigSep_rangeSet_empty (lo := 25 + 2) (by decide), Ring.bigSep_rangeSet_empty (lo := 25) (by decide), Ring.rangeSet_univ,
    show sl 4 25 = 1 from rfl, show sl 4 (25 + 1) = 2 from rfl, show sl 4 (25 + 2) = 3 from rfl, show sl 4 (25 + 3) = 0 from rfl]
  unfold xfree yfree
  iintro ⟨⟨HX, -⟩, ⟨⟨Hx1, Hs1⟩, ⟨Hx2, Hs2⟩, ⟨Hx3, Hs3⟩, Hx0, Hs0⟩, ⟨HY, -⟩, ⟨Hy1, Ht1⟩, ⟨Hy2, Ht2⟩, ⟨Hy3, Ht3⟩, Hy0, Ht0⟩
  isplitl [HX]; · iexact HX
  isplitl [HY]
  · iapply (each (fun b => ydone_gout c out b)); iexact HY
  isplitl [Hx0 Hx1 Hx2 Hx3 Hy0 Hy1 Hy2 Hy3]
  · isplitl [Hx0 Hx1 Hx2 Hx3]
    · isplitl [Hx0]; · iexact Hx0
      isplitl [Hx1]; · iexact Hx1
      isplitl [Hx2]; · iexact Hx2
      iexact Hx3
    isplitl [Hy0]; · iexact Hy0
    isplitl [Hy1]; · iexact Hy1
    isplitl [Hy2]; · iexact Hy2
    iexact Hy3
  isplitl [Hs0 Hs1 Hs2 Hs3]
  · isplitl [Hs0]; · iexact Hs0
    isplitl [Hs1]; · iexact Hs1
    isplitl [Hs2]; · iexact Hs2
    iexact Hs3
  isplitl [Ht0]; · iexact Ht0
  isplitl [Ht1]; · iexact Ht1
  isplitl [Ht2]; · iexact Ht2
  iexact Ht3

end Ends

/-! ## The launch -/

section Launch
variable (m : (ℓ : Loc nD τ sig) → Buf (Elt F) ℓ) (ρ : Dev nD → PrngReg)

/-- The kernel's own semaphores: the four input slots' and the four output slots'. -/
abbrev osem : Fin 4 ⊕ Fin 4 → SemLoc sig := Sum.elim (fun s => .dma (xsem s).sem) (fun s => .dma (ysem s).sem)
theorem ownSemFacts : Pipeline.OwnSemFacts spec0 osem := by decide

theorem ownSems0_eq (c : Dev nD) : (Pipeline.ownSems0 (Ix := Unit) (Name := ℕ) (U := UU nD τ) (Lvl := ℕ) (Val := Elt F) (τ := τ) osem c : sProp 𝕄)
    = iprop((xcell c 0 ∗ xcell c 1 ∗ xcell c 2 ∗ xcell c 3 ∗ ycell c 0 ∗ ycell c 1 ∗ ycell c 2 ∗ ycell c 3)) := by
  unfold Pipeline.ownSems0
  exact bigSep_univ_eq_bigSepL [Sum.inl (0 : Fin 4), Sum.inl 1, Sum.inl 2, Sum.inl 3, Sum.inr 0, Sum.inr 1, Sum.inr 2, Sum.inr 3] (by decide) (by decide) _

/-- The weights and the input as launched. -/
abbrev wA (c : Dev nD) : S128x128.Idx → Elt F .f32 := m ((c : Thread nD τ).loc main_arg2)
abbrev wB (c : Dev nD) : S128x128.Idx → Elt F .f32 := m ((c : Thread nD τ).loc main_arg4)
abbrev wC (c : Dev nD) : S128x128.Idx → Elt F .f32 := m ((c : Thread nD τ).loc main_arg6)
abbrev xA (c : Dev nD) : XBuf F c := m ((c : Thread nD τ).loc main_arg1)
/-- The result's blocks. -/
abbrev outA (c : Dev nD) : Fin 25 → S4000x128.Idx → Elt F .f32 := yval c (xA m c) (wA m c) (wB m c) (wC m c)

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
  Φ t := Inv c (xA m c) (outA m c) t.val
  q _ := fullShare
  owed _ := 0

theorem before_w0 (c : Dev nD) (t : Fin cfg0.N) (d) : (dats m 0 c).before 0 t d = iblk m c 0 t :=
  ((dats m 0 c).before_in_eq_fetched 0 rfl (fun _ => rfl) (fun _ _ _ => rfl) (fun t => rfl) t d).trans (by unfold Dat.fetched Dat.blockOf iblk; rfl)
theorem before_w1 (c : Dev nD) (t : Fin cfg0.N) (d) : (dats m 0 c).before 1 t d = iblk m c 1 t :=
  ((dats m 0 c).before_in_eq_fetched 1 rfl (fun _ => rfl) (fun _ _ _ => rfl) (fun t => rfl) t d).trans (by unfold Dat.fetched Dat.blockOf iblk; rfl)
theorem before_w2 (c : Dev nD) (t : Fin cfg0.N) (d) : (dats m 0 c).before 2 t d = iblk m c 2 t :=
  ((dats m 0 c).before_in_eq_fetched 2 rfl (fun _ => rfl) (fun _ _ _ => rfl) (fun t => rfl) t d).trans (by unfold Dat.fetched Dat.blockOf iblk; rfl)
theorem after_w0 (c : Dev nD) (t : Fin cfg0.N) : (dats m 0 c).after 0 t = iblk m c 0 t := rfl
theorem after_w1 (c : Dev nD) (t : Fin cfg0.N) : (dats m 0 c).after 1 t = iblk m c 1 t := rfl
theorem after_w2 (c : Dev nD) (t : Fin cfg0.N) : (dats m 0 c).after 2 t = iblk m c 2 t := rfl

/-- A weight's staging buffer holding `u`, loaded whole. -/
theorem load_whole (a : Memref sig .tc .vmem S128x128 .f32) (u : S128x128.Idx → Elt F .f32) :
    a.view.readAt (Elt F) wrect (a.view.rep u) = u := by
  funext k
  rw [View.readAt_apply, View.read_rep]
  exact congrArg u (funext fun a => Fin.ext (by fin_cases a <;> simp [Rect.toLoadRect, Rect.unit]))

theorem blk_w0 (c : Dev nD) (t : Fin cfg0.N) : iblk m c 0 t = wA m c := by
  unfold iblk; funext k
  show wA m c (((win0 0).rect t).emb k) = wA m c k
  refine congrArg (wA m c) (funext fun a => Fin.ext ?_)
  rw [Rect.emb_apply]
  fin_cases a
  · show 0 * 128 + 1 * (k 0).val = (k 0).val; omega
  · show 0 * 128 + 1 * (k 1).val = (k 1).val; omega
theorem blk_w1 (c : Dev nD) (t : Fin cfg0.N) : iblk m c 1 t = wB m c := by
  unfold iblk; funext k
  show wB m c (((win0 1).rect t).emb k) = wB m c k
  refine congrArg (wB m c) (funext fun a => Fin.ext ?_)
  rw [Rect.emb_apply]
  fin_cases a
  · show 0 * 128 + 1 * (k 0).val = (k 0).val; omega
  · show 0 * 128 + 1 * (k 1).val = (k 1).val; omega
theorem blk_w2 (c : Dev nD) (t : Fin cfg0.N) : iblk m c 2 t = wC m c := by
  unfold iblk; funext k
  show wC m c (((win0 2).rect t).emb k) = wC m c k
  refine congrArg (wC m c) (funext fun a => Fin.ext ?_)
  rw [Rect.emb_apply]
  fin_cases a
  · show 0 * 128 + 1 * (k 0).val = (k 0).val; omega
  · show 0 * 128 + 1 * (k 1).val = (k 1).val; omega

theorem defs_tc : (defs₀ (F := F)) .tc cfg0.body
    = fun a => bodyG (win0_0.stage (a.2 0)) (hstage0_0 ((a.2 0).cast nbuf0_0)) (win0_1.stage (a.2 1)) (hstage0_1 ((a.2 1).cast nbuf0_1)) (win0_2.stage (a.2 2)) (hstage0_2 ((a.2 2).cast nbuf0_2)) (grid0.coords a.1) := rfl
theorem prog_eq (t : Fin cfg0.N) : (defs₀ (F := F)) .tc cfg0.body (cfg0.bodyArgs t (cfg0.slots t))
    = bodyG (st0_0 t) (hstage0_0 ((cfg0.slots t 0).cast nbuf0_0)) (st0_1 t) (hstage0_1 ((cfg0.slots t 1).cast nbuf0_1)) (st0_2 t) (hstage0_2 ((cfg0.slots t 2).cast nbuf0_2)) (grid0.coords t) :=
  (congrFun defs_tc _).trans rfl

theorem coords_eq : ∀ t : Fin grid0.N, (grid0.coords t 0).val = t.val := by decide +kernel

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_w0, before_w1, before_w2, after_w0, after_w1, after_w2]
  rw [show (dats m 0 c).Φ t.castSucc = Inv c (xA m c) (outA m c) t.val from rfl, show (dats m 0 c).Φ t.succ = Inv c (xA m c) (outA m c) (t.val + 1) from rfl]
  unfold Dat.owesAt Pipeline.owesWithin
  rw [show (dats m 0 c).owed t.castSucc = 0 from rfl, show (dats m 0 c).owed t.succ = 0 from rfl]
  unfold owns
  iintro ⟨HI, ⟨%W, -, HW⟩, ⟨%d0, %g0, %hg0, H0⟩, ⟨%d1, %g1, %hg1, H1⟩, ⟨%d2, %g2, %hg2, H2⟩⟩
  ihave H0 := (pointsTo_rep_entails (c : Thread nD τ) (st0_0 t) g0 fullShare) $$ H0
  ihave H1 := (pointsTo_rep_entails (c : Thread nD τ) (st0_1 t) g1 fullShare) $$ H1
  ihave H2 := (pointsTo_rep_entails (c : Thread nD τ) (st0_2 t) g2 fullShare) $$ H2
  rw [hg0, hg1, hg2]
  sl_rw [prog_eq t]
  iapply (wp_wand_r frame (wpE (defs₀ (F := F)) 𝒱₀ (c : Thread nD τ) none) Set.univ)
  isplitl [HI HW H0 H1 H2]
  · iapply (step_all c (xA m c) (st0_0 t) _ (st0_1 t) _ (st0_2 t) _ ((st0_0 t).view.rep (iblk m c 0 t)) ((st0_1 t).view.rep (iblk m c 1 t)) ((st0_2 t).view.rep (iblk m c 2 t)) W
      (w0 := wA m c) (w1 := wB m c) (w2 := wC m c)
      ((load_whole _ _).trans (blk_w0 m c t)) ((load_whole _ _).trans (blk_w1 m c t)) ((load_whole _ _).trans (blk_w2 m c t)) (grid0.coords t) t.val (coords_eq t))
    isplitl [H0 H1 H2]
    · isplitl [H0]; · iexact H0
      isplitl [H1]; · iexact H1
      iexact H2
    isplitl [HW]; · iexact HW
    iexact HI
  iintro %_ ⟨⟨H0, H1, H2⟩, ⟨%W', HW⟩, HI⟩
  isplitl [HI]; · iexact HI
  isplitl [HW]
  · iexists W'; isplitr; · ipureintro; exact fun _ _ => Or.inl trivial
    iexact HW
  isplitl [H0]
  · iexists _; isplitr; · ipureintro; exact View.read_rep _ _
    iexact H0
  isplitl [H1]
  · iexists _; isplitr; · ipureintro; exact View.read_rep _ _
    iexact H1
  iexists _; isplitr; · ipureintro; exact View.read_rep _ _
  iexact H2

/-- What every run ends with: the result's contents, every argument as it was. -/
def QEnd (c : Dev nD) (s : MemSt nD τ sig (Elt F)) : Prop :=
  s.mem ((c : Thread nD τ).loc main_v0) = gout c (outA m c)
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg3) = m ((c : Thread nD τ).loc main_arg3)
    ∧ s.mem ((c : Thread nD τ).loc main_arg5) = m ((c : Thread nD τ).loc main_arg5)
    ∧ s.mem ((c : Thread nD τ).loc main_arg7) = m ((c : Thread nD τ).loc main_arg7)

/-- The arguments the kernel never touches. -/
def idle (c : Dev nD) : sProp 𝕄 :=
  iprop((((c : Thread nD τ).loc main_arg0) ↦{fullShare} m ((c : Thread nD τ).loc main_arg0)) ∗ (((c : Thread nD τ).loc main_arg3) ↦{fullShare} m ((c : Thread nD τ).loc main_arg3))
    ∗ (((c : Thread nD τ).loc main_arg5) ↦{fullShare} m ((c : Thread nD τ).loc main_arg5)) ∗ (((c : Thread nD τ).loc main_arg7) ↦{fullShare} m ((c : Thread nD τ).loc main_arg7)))

set_option backward.isDefEq.respectTransparency.types false in
set_option maxHeartbeats 1600000 in
theorem run_main : θ_run defs (onTc (τ := τ) (main (F := F))) ⟨m, fun _ => 0, ρ⟩ (fun r =>
    (∀ c : Dev nD, (∀ w : Fin cfg0.W, r.2.mem ((cfg0.win w).arr.view.loc (c : Thread nD τ)) = (dats m 0 c).arrAt w cfg0.N) ∧ QEnd m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_region cfgs 0 defs₀ 𝒱₀ m main fun c => (main_chain c).trans rfl)
    (hA := fun _ _ => rfl)
    (X := fun c => iprop((((c : Thread nD τ).loc main_arg1) ↦{fullShare} xA m c) ∗ (∃ G : YBuf F c, ((c : Thread nD τ).loc main_v0) ↦{fullShare} G)
      ∗ Pipeline.ownSems0 osem c))
    (Y := fun c => iprop((((c : Thread nD τ).loc main_arg1) ↦{fullShare} xA m c) ∗ (((c : Thread nD τ).loc main_v0) ↦{fullShare} gout c (outA m c))))
    (Z := idle m)
    (hX := fun c => by
      rw [unscopedRest0_eq]
      unfold idle
      iintro ⟨⟨H0, H1, H3, H5, H7, Hv⟩, HS, -, -, -⟩; imodintro
      isplitl [H1 Hv HS]
      · isplitl [H1]; · iexact H1
        isplitl [Hv]; · iexists _; iexact Hv
        iexact HS
      isplitl [H0]; · iexact H0
      isplitl [H3]; · iexact H3
      isplitl [H5]; · iexact H5
      iexact H7)
    (hin := fun c => by
      rw [scopedRest0_eq, show (dats m 0 c).Φ 0 = Inv c (xA m c) (outA m c) 0 from rfl, ownSems0_eq]
      iintro ⟨⟨H1, Hv, Hx0, Hx1, Hx2, Hx3, Hy0, Hy1, Hy2, Hy3⟩, Hs, Ht⟩
      ihave Hs := (xring_split c) $$ Hs
      ihave Ht := (yring_split c) $$ Ht
      iapply (inv_start c (xA m c) (outA m c))
      rw [four (xcell c), four (ycell c)]
      isplitl [H1]; · iexact H1
      isplitl [Hv]; · iexact Hv
      isplitl [Hx0 Hx1 Hx2 Hx3 Hy0 Hy1 Hy2 Hy3]
      · isplitl [Hx0 Hx1 Hx2 Hx3]
        · isplitl [Hx0]; · iexact Hx0
          isplitl [Hx1]; · iexact Hx1
          isplitl [Hx2]; · iexact Hx2
          iexact Hx3
        isplitl [Hy0]; · iexact Hy0
        isplitl [Hy1]; · iexact Hy1
        isplitl [Hy2]; · iexact Hy2
        iexact Hy3
      isplitl [Hs]; · iexact Hs
      iexact Ht)
    (hout := fun c => by
      rw [scopedRest0_eq, show (dats m 0 c).Φ (Fin.last cfg0.N) = Inv c (xA m c) (outA m c) 25 from rfl, ownSems0_eq]
      iintro HI
      ihave HI := (inv_end c (xA m c) (outA m c)) $$ HI
      rw [four (xcell c), four (ycell c)]
      icases HI with ⟨H1, Hv, ⟨⟨Hx0, Hx1, Hx2, Hx3⟩, Hy0, Hy1, Hy2, Hy3⟩, Hs, Ht⟩
      isplitl [H1 Hv]
      · isplitl [H1]; · iexact H1
        iexact Hv
      isplitl [Hx0 Hx1 Hx2 Hx3 Hy0 Hy1 Hy2 Hy3]
      · isplitl [Hx0]; · iexact Hx0
        isplitl [Hx1]; · iexact Hx1
        isplitl [Hx2]; · iexact Hx2
        isplitl [Hx3]; · iexact Hx3
        isplitl [Hy0]; · iexact Hy0
        isplitl [Hy1]; · iexact Hy1
        isplitl [Hy2]; · iexact Hy2
        iexact Hy3
      isplitl [Hs]; · iapply (xring_join c); iexact Hs
      iapply (yring_join c); iexact Ht)
    (QY := QEnd m)
    (hY := fun c s' => by
      unfold idle QEnd
      iintro ⟨⟨H1, Hv⟩, ⟨H0, H3, H5, H7⟩, HSI⟩
      icombine HSI H0 gives %h0
      icombine HSI H1 gives %h1
      icombine HSI H3 gives %h3
      icombine HSI H5 gives %h5
      icombine HSI H7 gives %h7
      icombine HSI Hv gives %hv
      imodintro
      isplitr
      · ipureintro
        exact ⟨Buf.eq_of_forall_mem_univ hv, Buf.eq_of_forall_mem_univ h0, Buf.eq_of_forall_mem_univ h1, Buf.eq_of_forall_mem_univ h3,
          Buf.eq_of_forall_mem_univ h5, Buf.eq_of_forall_mem_univ h7⟩
      iexact HSI)
    (hQ := fun _ hh hz => ⟨hh, hz⟩)

/-- Every run of @main ends with the result put together from the block values, every argument unchanged and every
    counter at zero. -/
theorem run : θ_run defs (onTc (τ := τ) (main (F := F))) ⟨m, fun _ => 0, ρ⟩ (fun r =>
    (∀ c : Dev nD, r.2.mem ((c : Thread nD τ).loc main_v0) = gout c (outA m c)
      ∧ (r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7))) ∧ r.2.sem = fun _ => 0) :=
  (θ_run defs _ _).mono (fun _ hh => ⟨fun c => ⟨(hh.1 c).2.1, (hh.1 c).2.2.1, (hh.1 c).2.2.2.1,
    ((hh.1 c).1 0).trans ((dats m 0 c).arrAt_in 0 rfl _), (hh.1 c).2.2.2.2.1,
    ((hh.1 c).1 1).trans ((dats m 0 c).arrAt_in 1 rfl _), (hh.1 c).2.2.2.2.2.1,
    ((hh.1 c).1 2).trans ((dats m 0 c).arrAt_in 2 rfl _), (hh.1 c).2.2.2.2.2.2⟩, hh.2⟩) (run_main m ρ)

end Launch

end Cert.KernelIdeal.Hand
-- ==== Proof.RefRun.lean ====
/-
  The run of the reference: its straight line of forty host operations, with the result read as the plain formula: a
  linear layer, four residual layers `max (x W + b) 0 + x`, and a last linear layer.
-/
module

public import proofs.«01_k».proof.Defs
public import proofs.«01_k».proof.Proof.Gen.ReferenceIdeal
public import Idealize.ShloMosaic.Lib.StableHlo.Run
public import Idealize.ShloMosaic.Lib.Quiescent

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.StableHlo Idealize.SL.Sem

variable {F : FTy → Type} [FloatOps F]

/-! ## The result as a formula -/

/-- A bias vector spread over every row. -/
def bias (b : FVec F S128 .f32) : FVec F S100000x128 .f32 :=
  broadcastInDim S100000x128 ![0, 1] bcast_S1x128_S100000x128_0_1 (broadcastInDim S1x128 ![1] bcast_S128_S1x128_1 b)

/-- A linear layer: the product with the weights, plus the bias. -/
def lin (x : FVec F S100000x128 .f32) (w : FVec F S128x128 .f32) (b : FVec F S128 .f32) : FVec F S100000x128 .f32 :=
  addf (Host.dotGeneral dot_S100000x128_S128x128_S100000x128_1_0_0_1_n_n none x w) (bias b)

/-- A residual layer: the positive part of a linear layer, plus the layer's input. -/
def res (x : FVec F S100000x128 .f32) (w : FVec F S128x128 .f32) (b : FVec F S128 .f32) : FVec F S100000x128 .f32 :=
  addf (maximumf (lin x w b) (broadcastInDim S100000x128 ![] bcast_S_S100000x128 (constant S_ .f32 0x00000000#32))) x

/-- The reference's result from its arguments. -/
def out (x : FVec F S100000x128 .f32) (w0 : FVec F S128x128 .f32) (b0 : FVec F S128 .f32) (ws : FVec F S128x128 .f32)
    (bs : FVec F S128 .f32) (w1 : FVec F S128x128 .f32) (b1 : FVec F S128 .f32) : FVec F S100000x128 .f32 :=
  lin (res (res (res (res (lin x w0 b0) ws bs) ws bs) ws bs) ws bs) w1 b1

/-! ## The straight line -/

/-- The reference's operations, in order. -/
abbrev ops : List (HloOp τ sig (Elt F)) :=
  [ binary main_arg1 main_arg2 main_v0 (fun l r => Host.dotGeneral dot_S100000x128_S128x128_S100000x128_1_0_0_1_n_n none l r),
    unary main_arg3 main_v1 (broadcastInDim S1x128 ![1] bcast_S128_S1x128_1),
    unary main_v1 main_v2 (broadcastInDim S100000x128 ![0, 1] bcast_S1x128_S100000x128_0_1),
    binary main_v0 main_v2 main_v3 addf,
    binary main_v3 main_arg4 main_v4 (fun l r => Host.dotGeneral dot_S100000x128_S128x128_S100000x128_1_0_0_1_n_n none l r),
    unary main_arg5 main_v5 (broadcastInDim S1x128 ![1] bcast_S128_S1x128_1),
    unary main_v5 main_v6 (broadcastInDim S100000x128 ![0, 1] bcast_S1x128_S100000x128_0_1),
    binary main_v4 main_v6 main_v7 addf,
    TRef.nullary main_call0.cst (constant S_ .f32 0x00000000#32),
    TRef.unary main_call0.cst main_call0.v0 (broadcastInDim S100000x128 ![] bcast_S_S100000x128),
    TRef.binary (.of main_v7) main_call0.v0 main_call0.v1 maximumf,
    binary main_v8 main_v3 main_v9 addf,
    binary main_v9 main_arg4 main_v10 (fun l r => Host.dotGeneral dot_S100000x128_S128x128_S100000x128_1_0_0_1_n_n none l r),
    unary main_arg5 main_v11 (broadcastInDim S1x128 ![1] bcast_S128_S1x128_1),
    unary main_v11 main_v12 (broadcastInDim S100000x128 ![0, 1] bcast_S1x128_S100000x128_0_1),
    binary main_v10 main_v12 main_v13 addf,
    TRef.nullary main_call1.cst (constant S_ .f32 0x00000000#32),
    TRef.unary main_call1.cst main_call1.v0 (broadcastInDim S100000x128 ![] bcast_S_S100000x128),
    TRef.binary (.of main_v13) main_call1.v0 main_call1.v1 maximumf,
    binary main_v14 main_v9 main_v15 addf,
    binary main_v15 main_arg4 main_v16 (fun l r => Host.dotGeneral dot_S100000x128_S128x128_S100000x128_1_0_0_1_n_n none l r),
    unary main_arg5 main_v17 (broadcastInDim S1x128 ![1] bcast_S128_S1x128_1),
    unary main_v17 main_v18 (broadcastInDim S100000x128 ![0, 1] bcast_S1x128_S100000x128_0_1),
    binary main_v16 main_v18 main_v19 addf,
    TRef.nullary main_call2.cst (constant S_ .f32 0x00000000#32),
    TRef.unary main_call2.cst main_call2.v0 (broadcastInDim S100000x128 ![] bcast_S_S100000x128),
    TRef.binary (.of main_v19) main_call2.v0 main_call2.v1 maximumf,
    binary main_v20 main_v15 main_v21 addf,
    binary main_v21 main_arg4 main_v22 (fun l r => Host.dotGeneral dot_S100000x128_S128x128_S100000x128_1_0_0_1_n_n none l r),
    unary main_arg5 main_v23 (broadcastInDim S1x128 ![1] bcast_S128_S1x128_1),
    unary main_v23 main_v24 (broadcastInDim S100000x128 ![0, 1] bcast_S1x128_S100000x128_0_1),
    binary main_v22 main_v24 main_v25 addf,
    TRef.nullary main_call3.cst (constant S_ .f32 0x00000000#32),
    TRef.unary main_call3.cst main_call3.v0 (broadcastInDim S100000x128 ![] bcast_S_S100000x128),
    TRef.binary (.of main_v25) main_call3.v0 main_call3.v1 maximumf,
    binary main_v26 main_v21 main_v27 addf,
    binary main_v27 main_arg6 main_v28 (fun l r => Host.dotGeneral dot_S100000x128_S128x128_S100000x128_1_0_0_1_n_n none l r),
    unary main_arg7 main_v29 (broadcastInDim S1x128 ![1] bcast_S128_S1x128_1),
    unary main_v29 main_v30 (broadcastInDim S100000x128 ![0, 1] bcast_S1x128_S100000x128_0_1),
    binary main_v28 main_v30 main_v31 addf ]

/-- The reference is that straight line. -/
theorem main_eq (c : Dev nD) : main (F := F) c = seq ops := by
  simp only [main, fn_relu.body, seq, bind_assoc, pure_bind]
  rfl

/-- The result's buffer ends at the formula; -/
theorem out_eq (V : Valuation τ sig (Elt F)) : after ops V (main_v31 : DevRef τ sig)
    = out (V (main_arg1 : DevRef τ sig)) (V (main_arg2 : DevRef τ sig)) (V (main_arg3 : DevRef τ sig))
        (V (main_arg4 : DevRef τ sig)) (V (main_arg5 : DevRef τ sig)) (V (main_arg6 : DevRef τ sig))
        (V (main_arg7 : DevRef τ sig)) := by
  after_results_simp
  rfl

/-- and no operation writes an argument. -/
theorem args_eq (V : Valuation τ sig (Elt F)) :
    after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig)
    ∧ after ops V (main_arg3 : DevRef τ sig) = V (main_arg3 : DevRef τ sig)
    ∧ after ops V (main_arg4 : DevRef τ sig) = V (main_arg4 : DevRef τ sig)
    ∧ after ops V (main_arg5 : DevRef τ sig) = V (main_arg5 : DevRef τ sig)
    ∧ after ops V (main_arg6 : DevRef τ sig) = V (main_arg6 : DevRef τ sig)
    ∧ after ops V (main_arg7 : DevRef τ sig) = V (main_arg7 : DevRef τ sig) := by
  refine ⟨?_, ?_, ?_, ?_, ?_, ?_, ?_, ?_⟩ <;> after_results_simp

/-- The program has no scoped buffer -/
theorem scopedRefs_eq : (Finset.univ.filter fun b : Ref sig .tc => b.isScoped) = ∅ := by decide
/-- and no scoped semaphore. -/
theorem scopedSems_eq : (Finset.univ.filter fun sm : SemLoc sig => sm.isScoped .tc) = ∅ := by decide

/-- Every operation touches buffers of the TensorCore only. -/
theorem ops_sub : (ops : List (HloOp τ sig (Elt F))).Forall fun op => op.bufs ⊆ tcRefs τ sig :=
  ⟨binary_bufs_sub .., unary_bufs_sub .., unary_bufs_sub .., binary_bufs_sub ..,
   binary_bufs_sub .., unary_bufs_sub .., unary_bufs_sub .., binary_bufs_sub .., nullary_bufs_sub .., unary_bufs_sub .., binary_bufs_sub .., binary_bufs_sub ..,
   binary_bufs_sub .., unary_bufs_sub .., unary_bufs_sub .., binary_bufs_sub .., nullary_bufs_sub .., unary_bufs_sub .., binary_bufs_sub .., binary_bufs_sub ..,
   binary_bufs_sub .., unary_bufs_sub .., unary_bufs_sub .., binary_bufs_sub .., nullary_bufs_sub .., unary_bufs_sub .., binary_bufs_sub .., binary_bufs_sub ..,
   binary_bufs_sub .., unary_bufs_sub .., unary_bufs_sub .., binary_bufs_sub .., nullary_bufs_sub .., unary_bufs_sub .., binary_bufs_sub .., binary_bufs_sub ..,
   binary_bufs_sub .., unary_bufs_sub .., unary_bufs_sub .., binary_bufs_sub ..⟩

/-- Every run of the reference ends with the result at the formula of the arguments, the arguments as they were, and
    every semaphore at zero. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v31)
          = out (m ((c.tc : Thread nD τ).loc main_arg1)) (m ((c.tc : Thread nD τ).loc main_arg2)) (m ((c.tc : Thread nD τ).loc main_arg3)) (m ((c.tc : Thread nD τ).loc main_arg4))
              (m ((c.tc : Thread nD τ).loc main_arg5)) (m ((c.tc : Thread nD τ).loc main_arg6)) (m ((c.tc : Thread nD τ).loc main_arg7))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7))
      ∧ r.2.sem = fun _ => 0 := by
  refine (θ_run defs _ _).mono (fun r h => ⟨fun c => ⟨(h c main_v31).trans (out_eq _), ?_⟩, sem_eq_zero_of_no_sems (by decide) r.2⟩)
    (run_seq scopedRefs_eq scopedSems_eq defs main (fun _ => ops) main_eq (fun _ => ops_sub) m ρ)
  obtain ⟨h0, h1, h2, h3, h4, h5, h6, h7⟩ := args_eq (F := F) (launchContents m c)
  exact ⟨(h c main_arg0).trans h0, (h c main_arg1).trans h1, (h c main_arg2).trans h2, (h c main_arg3).trans h3, (h c main_arg4).trans h4, (h c main_arg5).trans h5, (h c main_arg6).trans h6, (h c main_arg7).trans h7⟩

end Cert.ReferenceIdeal.Hand
-- ==== Proof.Value.lean ====
/-
  The kernel's blocks put together are the reference's result, on the extended reals. A layer treats each row on its
  own, so a block of the result is the layers' value at the rows of that block.
-/
module

public import proofs.«01_k».proof.Proof.IdealRun
public import proofs.«01_k».proof.Proof.RefRun
public import proofs.«01_k».proof.Proof.Gen.Pre_zero_biases
public import Idealize.ShloMosaic.Lib.KernelVsHost
public import Idealize.ShloMosaic.Lib.MatmulPlain
public import Idealize.ShloMosaic.Lib.ReduceAll
public import Idealize.ShloMosaic.Lib.ValueIdxCore
public import Idealize.ShloMosaic.Lib.Pipeline.Value
public import Idealize.ShloMosaic.PureOps.Ideal.Laws

@[expose] public section

set_option maxRecDepth 16384

noncomputable section

open scoped BigOperators

namespace Cert.Value

open Idealize.ShloMosaic Idealize.ShloMosaic.ValueIdx Idealize.ShloMosaic.TcCoe

/-- An array of `n` rows of 128 extended reals. -/
abbrev Rows (n : Nat) : Type := (⟨2, ![n, 128]⟩ : Shape).Idx → EReal

variable {n p : Nat}

/-! ## The layers, for any number of rows -/

/-- The product of the rows with a weight matrix. -/
def mm (x : Rows n) (w : Rows 128) : Rows n := fun j => ∑ k : Fin 128, x (ix2 (j 0) k) * w (ix2 k (j 1))

/-- A residual layer without a bias. -/
def layer (x : Rows n) (w : Rows 128) : Rows n := fun j => max (mm x w j) 0 + x j

/-- The whole network without biases. -/
def net (x : Rows n) (w0 ws w1 : Rows 128) : Rows n :=
  mm (layer (layer (layer (layer (mm x w0) ws) ws) ws) ws) w1

/-- Row `r` of `x` is row `ρ r` of `y`. -/
def Agree (ρ : Fin n → Fin p) (x : Rows n) (y : Rows p) : Prop := ∀ r k, x (ix2 r k) = y (ix2 (ρ r) k)

/-- A product's row depends on that row alone, -/
theorem mm_agree {ρ : Fin n → Fin p} {x : Rows n} {y : Rows p} (h : Agree ρ x y) (w : Rows 128) :
    Agree ρ (mm x w) (mm y w) :=
  fun r k => Finset.sum_congr rfl fun i _ => congrArg (· * w (ix2 i k)) (h r i)

/-- a residual layer's too, -/
theorem layer_agree {ρ : Fin n → Fin p} {x : Rows n} {y : Rows p} (h : Agree ρ x y) (w : Rows 128) :
    Agree ρ (layer x w) (layer y w) :=
  fun r k => congrArg₂ (fun a b => max a 0 + b) (mm_agree h w r k) (h r k)

/-- and so the network's. -/
theorem net_agree {ρ : Fin n → Fin p} {x : Rows n} {y : Rows p} (h : Agree ρ x y) (w0 ws w1 : Rows 128) :
    Agree ρ (net x w0 ws w1) (net y w0 ws w1) :=
  mm_agree (layer_agree (layer_agree (layer_agree (layer_agree (mm_agree h w0) ws) ws) ws) ws) w1

/-! ## The kernel's block -/

section Kernel
open Cert.KernelIdeal Cert.KernelIdeal.Gen Cert.KernelIdeal.Hand

/-- The kernel's matrix product, started at zero. -/
theorem kernel_mm (x : FVec Ideal S4000x128 .f32) (w : FVec Ideal S128x128 .f32) :
    matmul dot_S4000x128_S128x128_S4000x128_1_0_0_1_n_n none x w (constant S4000x128 .f32 0x00000000#32)
      = mm (n := 4000) x w := by
  funext j
  rw [eq_ix2 j]
  refine (Ideal.matmul_plain_apply (M := 4000) (K := 128) (N := 128) none x w _ (j 0) (j 1)).trans ?_
  show Ideal.ofBits .f32 0x00000000#32 + _ = _
  rw [Ideal.ofBits_zero_f32]
  exact zero_add _

/-- The kernel's residual step, as the kernel computes it. -/
def step (x : FVec Ideal S4000x128 .f32) (w : FVec Ideal S128x128 .f32) : FVec Ideal S4000x128 .f32 :=
  addf (maximumf (matmul dot_S4000x128_S128x128_S4000x128_1_0_0_1_n_n none x w (constant S4000x128 .f32 0x00000000#32))
    (broadcast S4000x128 (Scalar.ofBits .f32 0x00000000#32))) x

/-- The kernel's residual step is the layer. -/
theorem step_eq (x : FVec Ideal S4000x128 .f32) (w : FVec Ideal S128x128 .f32) : step x w = layer (n := 4000) x w := by
  unfold step
  rw [kernel_mm]
  funext j
  show max _ (Ideal.ofBits .f32 0x00000000#32) + _ = _
  rw [Ideal.ofBits_zero_f32]
  rfl

/-- The first payload: the first product and one residual step. -/
theorem pay1_eq (v : FVec Ideal S1x4000x128 .f32) (w0 ws : FVec Ideal S128x128 .f32) :
    k0_pay1 (F := Ideal) v w0 ws
      = step (matmul dot_S4000x128_S128x128_S4000x128_1_0_0_1_n_n none
          (shapeCast S4000x128 v shapeCasts_S1x4000x128_S4000x128) w0 (constant S4000x128 .f32 0x00000000#32)) ws := rfl

/-- The second payload: three more residual steps and the last product. -/
theorem pay2_eq (x : FVec Ideal S4000x128 .f32) (wa wb wc w1 : FVec Ideal S128x128 .f32) :
    k0_pay2 (F := Ideal) x wa wb wc w1
      = shapeCast S1x4000x128 (matmul dot_S4000x128_S128x128_S4000x128_1_0_0_1_n_n none (step (step (step x wa) wb) wc) w1
          (constant S4000x128 .f32 0x00000000#32)) shapeCasts_S4000x128_S1x4000x128 := rfl

/-- What the kernel stores for block `b`. -/
theorem yval_eq (c : Dev nD) (X : XBuf Ideal c) (w0 ws w1 : S128x128.Idx → Elt Ideal .f32) (b : Fin 25) :
    yval c X w0 ws w1 b = net (n := 4000) ((xblk b).view.read (Elt Ideal) X) w0 ws w1 := by
  unfold yval
  generalize (xblk b).view.read (Elt Ideal) X = v
  rw [pay2_eq, pay1_eq, shapeCast_shapeCast, shapeCast_shapeCast, kernel_mm, kernel_mm, step_eq, step_eq, step_eq, step_eq]
  rfl

end Kernel

/-! ## The reference under zero biases -/

section Reference
open Cert.ReferenceIdeal Cert.ReferenceIdeal.Gen Cert.ReferenceIdeal.Hand

/-- A linear layer with a zero bias is the product. -/
theorem lin_zero (x : FVec Ideal S100000x128 .f32) (w : FVec Ideal S128x128 .f32) :
    lin x w (fun _ => (0 : EReal)) = mm (n := 100000) x w := by
  funext j
  rw [eq_ix2 j]
  show Host.dotGeneral dot_S100000x128_S128x128_S100000x128_1_0_0_1_n_n none x w _ + (0 : EReal) = _
  rw [add_zero]
  refine (Ideal.matmul_plain_apply (M := 100000) (K := 128) (N := 128) none x w (fun _ => (0 : EReal)) (j 0) (j 1)).trans ?_
  exact zero_add _

/-- A residual layer with a zero bias. -/
theorem res_zero (x : FVec Ideal S100000x128 .f32) (w : FVec Ideal S128x128 .f32) :
    res x w (fun _ => (0 : EReal)) = layer (n := 100000) x w := by
  unfold res
  rw [lin_zero]
  funext j
  show max _ (Ideal.ofBits .f32 0x00000000#32) + _ = _
  rw [Ideal.ofBits_zero_f32]
  rfl

/-- The reference's result with zero biases. -/
theorem out_zero (x : FVec Ideal S100000x128 .f32) (w0 ws w1 : FVec Ideal S128x128 .f32) :
    out x w0 (fun _ => (0 : EReal)) ws (fun _ => (0 : EReal)) w1 (fun _ => (0 : EReal)) = net (n := 100000) x w0 ws w1 := by
  unfold out
  simp only [lin_zero, res_zero]
  rfl

end Reference

/-! ## The precondition -/

section Pre
open Cert.Pre_zero_biases Cert.Pre_zero_biases.Facts

/-- Where the comparison with zero holds everywhere, the vector is zero. -/
theorem zero_of_all (b : FVec Ideal S128 .f32) (j : S_.Idx)
    (e : Host.reduce IntOp.andi (cmpf .oeq b (broadcastInDim S128 ![] bcast_S_S128 (constant S_ .f32 0x00000000#32)))
      (constantI S_ 1 1#1) reducesTo_S128_S_d0 h_S_ j = 1#1) : b = fun _ => (0 : EReal) := by
  haveI : Subsingleton S_.Idx := ⟨fun a b => funext fun i => i.elim0⟩
  funext i
  have h := Host.reduce_andi_all _ _ _ _ j e i
  have h' : Ideal.cmp .oeq (b i) (Ideal.ofBits .f32 0x00000000#32) = 1#1 := h
  rw [Ideal.ofBits_zero_f32] at h'
  by_contra hne
  simp [Ideal.cmp, hne] at h'

/-- The precondition says that the three bias vectors are zero. -/
theorem biases (a0 : FVec Ideal S100000x3 .f32) (a1 : FVec Ideal S100000x128 .f32) (a2 : FVec Ideal S128x128 .f32)
    (a3 : FVec Ideal S128 .f32) (a4 : FVec Ideal S128x128 .f32) (a5 : FVec Ideal S128 .f32)
    (a6 : FVec Ideal S128x128 .f32) (a7 : FVec Ideal S128 .f32)
    (h : Cert.Pre_zero_biases.fn (F := Ideal) a0 a1 a2 a3 a4 a5 a6 a7 = fun _ => 1#1) :
    a3 = (fun _ => (0 : EReal)) ∧ a5 = (fun _ => (0 : EReal)) ∧ a7 = (fun _ => (0 : EReal)) := by
  have j : S_.Idx := fun i => i.elim0
  obtain ⟨h12, h3⟩ := IntOp.andi_eq_one.1 (congrFun h j)
  obtain ⟨h1, h2⟩ := IntOp.andi_eq_one.1 h12
  exact ⟨zero_of_all a3 j h1, zero_of_all a5 j h2, zero_of_all a7 j h3⟩

end Pre

/-! ## The two results agree -/

section Join
open Cert.KernelIdeal Cert.KernelIdeal.Gen Cert.KernelIdeal.Hand

/-- Row `r` of block `b` in the whole array. -/
def rowOf (b : Fin 25) (r : Fin 4000) : Fin 100000 := ⟨4000 * b.val + r.val, by omega⟩

/-- The block read from the input holds the input's rows. -/
theorem read_agree (c : Dev nD) (X : XBuf Ideal c) (b : Fin 25) :
    Agree (rowOf b) ((xblk b).view.read (Elt Ideal) X) (X : Rows 100000) := by
  intro r k
  have e0 : ((Rect.unit (s := S100000x128) (blkOff b) S4000x128.size (blkOff_inb b)).emb (ix2 r k) 0).val = 4000 * b.val + r.val := by
    simp [Rect.emb, Rect.unit]
  have e1 : ((Rect.unit (s := S100000x128) (blkOff b) S4000x128.size (blkOff_inb b)).emb (ix2 r k) 1).val = k.val := by
    simp [Rect.emb, Rect.unit]
  refine congrArg X (funext fun a => Fin.ext ?_)
  match a with
  | ⟨0, _⟩ => exact e0
  | ⟨1, _⟩ => exact e1

/-- The kernel's result is the network of its input. -/
theorem gout_eq (m : (ℓ : Loc nD τ sig) → Buf (Elt Ideal) ℓ) (c : Dev nD) :
    gout c (outA m c) = net (n := 100000) (xA m c) (wA m c) (wB m c) (wC m c) := by
  funext k
  show yval c (xA m c) (wA m c) (wB m c) (wC m c) (rowB k) (rowI k) = _
  rw [yval_eq, eq_ix2 (rowI k)]
  refine (net_agree (read_agree c (xA m c) (rowB k)) _ _ _ _ _).trans ?_
  congr 1
  rw [eq_ix2 k]
  congr 1
  apply Fin.ext
  show 4000 * ((k 0).val / 4000) + (k 0).val % 4000 = (k 0).val
  omega

end Join

end Cert.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_zero_biases
public import proofs.«01_k».proof.Proof.IdealRun
public import proofs.«01_k».proof.Proof.KernelRun
public import proofs.«01_k».proof.Proof.RefRun
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel's frame on 32-bit floats. -/
theorem frame_kernel : Cert.quiescent_Kernel := fun m g _ =>
  (θ_run Cert.Kernel.defs _ _).mono (fun _ h => ⟨fun c => (h.1 c).2, h.2⟩) (Cert.Kernel.Hand.run m g)

/-- The kernel's frame on the extended reals. -/
theorem frame_ideal : Cert.quiescent_KernelIdeal := fun m g _ =>
  (θ_run Cert.KernelIdeal.defs _ _).mono (fun _ h => ⟨fun c => (h.1 c).2, h.2⟩) (Cert.KernelIdeal.Hand.run m g)

/-- The reference's frame. -/
theorem frame_reference : Cert.quiescent_ReferenceIdeal := fun m g _ =>
  (θ_run Cert.ReferenceIdeal.defs _ _).mono (fun _ h => ⟨fun c => (h.1 c).2, h.2⟩) (Cert.ReferenceIdeal.Hand.run m g)

/-- Under zero biases the reference computes what the kernel computes, from the same arguments. -/
theorem value : Cert.algebraic_KernelIdeal_ReferenceIdeal_pre_zero_biases := fun m g m' g' hpre hargs => by
  refine ⟨fun c => Cert.KernelIdeal.Hand.gout c (Cert.KernelIdeal.Hand.outA m c),
    (θ_run Cert.KernelIdeal.defs _ _).mono (fun _ h => h.1) (Cert.KernelIdeal.Hand.run m g),
    (θ_run Cert.ReferenceIdeal.defs _ _).mono (fun _ h c => ⟨(h.1 c).1.trans ?_, (h.1 c).2⟩) (Cert.ReferenceIdeal.Hand.run m' g')⟩
  obtain ⟨-, e1, e2, e3, e4, e5, e6, e7⟩ := hargs c
  obtain ⟨z3, z5, z7⟩ := Cert.Value.biases _ _ _ _ _ _ _ _ (hpre c)
  rw [e1, e2, e3, e4, e5, e6, e7, z3, z5, z7]
  exact (Cert.Value.out_zero _ _ _ _).trans (Cert.Value.gout_eq m c).symm

theorem claim : Cert.Claim := ⟨Cert.Kernel.Gen.facts, Cert.KernelIdeal.Gen.facts, Cert.ReferenceIdeal.Gen.facts, Cert.Pre_zero_biases.Gen.facts,
  frame_kernel, frame_ideal, fun m g _ => frame_ideal m g trivial, frame_reference, fun m g _ => frame_reference m g trivial,
  trivial, value⟩

end Cert.Proof

end
